-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![8192, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![8192, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![8192, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x32 : Shape := ⟨2, ![256, 32]⟩
abbrev S1024x1 : Shape := ⟨2, ![1024, 1]⟩
abbrev S4x256x512 : Shape := ⟨3, ![4, 256, 512]⟩
abbrev S1024x512 : Shape := ⟨2, ![1024, 512]⟩
abbrev S8x4x256x256 : Shape := ⟨4, ![8, 4, 256, 256]⟩
abbrev S8x5x512 : Shape := ⟨3, ![8, 5, 512]⟩
abbrev S7x4 : Shape := ⟨2, ![7, 4]⟩
abbrev S7 : Shape := ⟨1, ![7]⟩
abbrev S_ : Shape := ⟨0, ![]⟩
abbrev S4x512 : Shape := ⟨2, ![4, 512]⟩
abbrev S4x1x512 : Shape := ⟨3, ![4, 1, 512]⟩
abbrev S4x256x256 : Shape := ⟨3, ![4, 256, 256]⟩
abbrev S1x4x256x256 : Shape := ⟨4, ![1, 4, 256, 256]⟩
abbrev S1x1 : Shape := ⟨2, ![1, 1]⟩
abbrev S1x1x256x256 : Shape := ⟨4, ![1, 1, 256, 256]⟩
abbrev S1x256x256 : Shape := ⟨3, ![1, 256, 256]⟩
abbrev S1024x128 : Shape := ⟨2, ![1024, 128]⟩
abbrev S512 : Shape := ⟨1, ![512]⟩
abbrev S1x512 : Shape := ⟨2, ![1, 512]⟩
abbrev S5x512 : Shape := ⟨2, ![5, 512]⟩
abbrev S1x5x512 : Shape := ⟨3, ![1, 5, 512]⟩
abbrev S1 : Shape := ⟨1, ![1]⟩
abbrev S1024x1024 : Shape := ⟨2, ![1024, 1024]⟩
abbrev S1024 : Shape := ⟨1, ![1024]⟩
abbrev S1x1x256 : Shape := ⟨3, ![1, 1, 256]⟩
abbrev S1x256 : Shape := ⟨2, ![1, 256]⟩
abbrev S256x256 : Shape := ⟨2, ![256, 256]⟩
abbrev S8x1x128 : Shape := ⟨3, ![8, 1, 128]⟩
abbrev S1x128 : Shape := ⟨2, ![1, 128]⟩

abbrev nBuf : Space → Nat
  | .hbm => 5
  | .vmem => 7
  | .smem => 0
  | _ => 0

abbrev bufTy : (tb : Table) → Fin (tcTables nBuf tb) → BufTy
  | .hbm, ⟨0, _⟩ => ⟨S1024x256, .bf16⟩
  | .hbm, ⟨1, _⟩ => ⟨S256x32, .bf16⟩
  | .hbm, ⟨2, _⟩ => ⟨S1024x1, .i32⟩
  | .hbm, ⟨3, _⟩ => ⟨S4x256x512, .bf16⟩
  | .hbm, ⟨4, _⟩ => ⟨S1024x512, .f32⟩
  | .local _ .vmem, ⟨0, _⟩ => ⟨S1024x256, .bf16⟩
  | .local _ .vmem, ⟨1, _⟩ => ⟨S1024x1, .i32⟩
  | .local _ .vmem, ⟨2, _⟩ => ⟨S4x256x512, .bf16⟩
  | .local _ .vmem, ⟨3, _⟩ => ⟨S1024x512, .f32⟩
  | .local _ .vmem, ⟨4, _⟩ => ⟨S8x4x256x256, .i8⟩
  | .local _ .vmem, ⟨5, _⟩ => ⟨S8x4x256x256, .i8⟩
  | .local _ .vmem, ⟨6, _⟩ => ⟨S8x5x512, .f32⟩
  | _, _ => ⟨S1024x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v9 : BitVec 32 := Scalar.addi v2 c1_i32_5
  let c8_i32_6 : BitVec 32 := 8#32
  let v10 : BitVec 32 := Scalar.remsi v9 c8_i32_6
  let c1_i32_8 : BitVec 32 := 1#32
  let v11 : BitVec 32 := Scalar.muli v10 c1_i32_8
  let v12 : BitVec 32 := Scalar.addi c0_i32 v11
  v12.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.addi v2 c2_i32
  let c8_i32_9 : BitVec 32 := 8#32
  let v14 : BitVec 32 := Scalar.remsi v13 c8_i32_9
  let c1_i32_11 : BitVec 32 := 1#32
  let v15 : BitVec 32 := Scalar.muli v14 c1_i32_11
  let v16 : BitVec 32 := Scalar.addi c0_i32_12 v15
  v16.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v17 : BitVec 32 := Scalar.addi v2 c3_i32
  let c8_i32_13 : BitVec 32 := 8#32
  let v18 : BitVec 32 := Scalar.remsi v17 c8_i32_13
  let c1_i32_15 : BitVec 32 := 1#32
  let v19 : BitVec 32 := Scalar.muli v18 c1_i32_15
  let v20 : BitVec 32 := Scalar.addi c0_i32_16 v19
  v20.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v21 : BitVec 32 := Scalar.addi v2 c4_i32
  let c8_i32_17 : BitVec 32 := 8#32
  let v22 : BitVec 32 := Scalar.remsi v21 c8_i32_17
  let c1_i32_19 : BitVec 32 := 1#32
  let v23 : BitVec 32 := Scalar.muli v22 c1_i32_19
  let v24 : BitVec 32 := Scalar.addi c0_i32_20 v23
  v24.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v25 : BitVec 32 := Scalar.addi v2 c5_i32
  let c8_i32_21 : BitVec 32 := 8#32
  let v26 : BitVec 32 := Scalar.remsi v25 c8_i32_21
  let c1_i32_23 : BitVec 32 := 1#32
  let v27 : BitVec 32 := Scalar.muli v26 c1_i32_23
  let v28 : BitVec 32 := Scalar.addi c0_i32_24 v27
  v28.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v29 : BitVec 32 := Scalar.addi v2 c6_i32
  let c8_i32_25 : BitVec 32 := 8#32
  let v30 : BitVec 32 := Scalar.remsi v29 c8_i32_25
  let c1_i32_27 : BitVec 32 := 1#32
  let v31 : BitVec 32 := Scalar.muli v30 c1_i32_27
  let v32 : BitVec 32 := Scalar.addi c0_i32_28 v31
  v32.toNat
def k0_dev7 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v33 : BitVec 32 := Scalar.addi v2 c7_i32
  let c8_i32_29 : BitVec 32 := 8#32
  let v34 : BitVec 32 := Scalar.remsi v33 c8_i32_29
  let c1_i32_31 : BitVec 32 := 1#32
  let v35 : BitVec 32 := Scalar.muli v34 c1_i32_31
  let v36 : BitVec 32 := Scalar.addi c0_i32_32 v35
  v36.toNat
def k0_dev8 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_54 : BitVec 32 := 1#32
  let v60 : BitVec 32 := Scalar.muli v4 c1_i32_54
  let v61 : BitVec 32 := Scalar.addi c0_i32_55 v60
  v61.toNat
def k0_dev9 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_68 : BitVec 32 := 1#32
  let v70 : BitVec 32 := Scalar.muli v7 c1_i32_68
  let v71 : BitVec 32 := Scalar.addi c0_i32_69 v70
  v71.toNat
def k0_dev10 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_82 : BitVec 32 := 1#32
  let v80 : BitVec 32 := Scalar.muli v4 c1_i32_82
  let v81 : BitVec 32 := Scalar.addi c0_i32_83 v80
  v81.toNat
def k0_dev11 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_96 : BitVec 32 := 1#32
  let v90 : BitVec 32 := Scalar.muli v7 c1_i32_96
  let v91 : BitVec 32 := Scalar.addi c0_i32_97 v90
  v91.toNat
def k0_dev12 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_110 : BitVec 32 := 1#32
  let v100 : BitVec 32 := Scalar.muli v4 c1_i32_110
  let v101 : BitVec 32 := Scalar.addi c0_i32_111 v100
  v101.toNat
def k0_dev13 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_124 : BitVec 32 := 1#32
  let v110 : BitVec 32 := Scalar.muli v7 c1_i32_124
  let v111 : BitVec 32 := Scalar.addi c0_i32_125 v110
  v111.toNat
def k0_dev14 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_138 : BitVec 32 := 1#32
  let v120 : BitVec 32 := Scalar.muli v4 c1_i32_138
  let v121 : BitVec 32 := Scalar.addi c0_i32_139 v120
  v121.toNat
def k0_dev15 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_152 : BitVec 32 := 1#32
  let v130 : BitVec 32 := Scalar.muli v7 c1_i32_152
  let v131 : BitVec 32 := Scalar.addi c0_i32_153 v130
  v131.toNat
def k0_dev16 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_168 : BitVec 32 := 1#32
  let v163 : BitVec 32 := Scalar.addi v2 c1_i32_168
  let c8_i32_169 : BitVec 32 := 8#32
  let v164 : BitVec 32 := Scalar.remsi v163 c8_i32_169
  let c1_i32_174 : BitVec 32 := 1#32
  let v165 : BitVec 32 := Scalar.muli v164 c1_i32_174
  let v166 : BitVec 32 := Scalar.addi c0_i32_175 v165
  v166.toNat
def k0_dev17 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_180 : BitVec 32 := 2#32
  let v175 : BitVec 32 := Scalar.addi v2 c2_i32_180
  let c8_i32_181 : BitVec 32 := 8#32
  let v176 : BitVec 32 := Scalar.remsi v175 c8_i32_181
  let c1_i32_186 : BitVec 32 := 1#32
  let v177 : BitVec 32 := Scalar.muli v176 c1_i32_186
  let v178 : BitVec 32 := Scalar.addi c0_i32_187 v177
  v178.toNat
def k0_dev18 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_192 : BitVec 32 := 3#32
  let v187 : BitVec 32 := Scalar.addi v2 c3_i32_192
  let c8_i32_193 : BitVec 32 := 8#32
  let v188 : BitVec 32 := Scalar.remsi v187 c8_i32_193
  let c1_i32_198 : BitVec 32 := 1#32
  let v189 : BitVec 32 := Scalar.muli v188 c1_i32_198
  let v190 : BitVec 32 := Scalar.addi c0_i32_199 v189
  v190.toNat
def k0_dev19 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_204 : BitVec 32 := 4#32
  let v199 : BitVec 32 := Scalar.addi v2 c4_i32_204
  let c8_i32_205 : BitVec 32 := 8#32
  let v200 : BitVec 32 := Scalar.remsi v199 c8_i32_205
  let c1_i32_210 : BitVec 32 := 1#32
  let v201 : BitVec 32 := Scalar.muli v200 c1_i32_210
  let v202 : BitVec 32 := Scalar.addi c0_i32_211 v201
  v202.toNat
def k0_dev20 (d0 : Dev nD) : Nat :=
  let c0_i32_223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_216 : BitVec 32 := 5#32
  let v211 : BitVec 32 := Scalar.addi v2 c5_i32_216
  let c8_i32_217 : BitVec 32 := 8#32
  let v212 : BitVec 32 := Scalar.remsi v211 c8_i32_217
  let c1_i32_222 : BitVec 32 := 1#32
  let v213 : BitVec 32 := Scalar.muli v212 c1_i32_222
  let v214 : BitVec 32 := Scalar.addi c0_i32_223 v213
  v214.toNat
def k0_dev21 (d0 : Dev nD) : Nat :=
  let c0_i32_235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_228 : BitVec 32 := 6#32
  let v223 : BitVec 32 := Scalar.addi v2 c6_i32_228
  let c8_i32_229 : BitVec 32 := 8#32
  let v224 : BitVec 32 := Scalar.remsi v223 c8_i32_229
  let c1_i32_234 : BitVec 32 := 1#32
  let v225 : BitVec 32 := Scalar.muli v224 c1_i32_234
  let v226 : BitVec 32 := Scalar.addi c0_i32_235 v225
  v226.toNat
def k0_dev22 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_240 : BitVec 32 := 7#32
  let v235 : BitVec 32 := Scalar.addi v2 c7_i32_240
  let c8_i32_241 : BitVec 32 := 8#32
  let v236 : BitVec 32 := Scalar.remsi v235 c8_i32_241
  let c1_i32_246 : BitVec 32 := 1#32
  let v237 : BitVec 32 := Scalar.muli v236 c1_i32_246
  let v238 : BitVec 32 := Scalar.addi c0_i32_247 v237
  v238.toNat
def k0_dev23 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_388 : BitVec 32 := 1#32
  let v447 : BitVec 32 := Scalar.muli v4 c1_i32_388
  let v448 : BitVec 32 := Scalar.addi c0_i32_389 v447
  v448.toNat
def k0_dev24 (d0 : Dev nD) : Nat :=
  let c0_i32_403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_402 : BitVec 32 := 1#32
  let v457 : BitVec 32 := Scalar.muli v7 c1_i32_402
  let v458 : BitVec 32 := Scalar.addi c0_i32_403 v457
  v458.toNat
def k0_dev25 (d0 : Dev nD) : Nat :=
  let c0_i32_445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_444 : BitVec 32 := 1#32
  let v483 : BitVec 32 := Scalar.muli v4 c1_i32_444
  let v484 : BitVec 32 := Scalar.addi c0_i32_445 v483
  v484.toNat
def k0_dev26 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_458 : BitVec 32 := 1#32
  let v493 : BitVec 32 := Scalar.muli v7 c1_i32_458
  let v494 : BitVec 32 := Scalar.addi c0_i32_459 v493
  v494.toNat
def k0_dev27 (d0 : Dev nD) : Nat :=
  let c0_i32_501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_500 : BitVec 32 := 1#32
  let v519 : BitVec 32 := Scalar.muli v4 c1_i32_500
  let v520 : BitVec 32 := Scalar.addi c0_i32_501 v519
  v520.toNat
def k0_dev28 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_514 : BitVec 32 := 1#32
  let v529 : BitVec 32 := Scalar.muli v7 c1_i32_514
  let v530 : BitVec 32 := Scalar.addi c0_i32_515 v529
  v530.toNat
def k0_dev29 (d0 : Dev nD) : Nat :=
  let c0_i32_557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_556 : BitVec 32 := 1#32
  let v555 : BitVec 32 := Scalar.muli v4 c1_i32_556
  let v556 : BitVec 32 := Scalar.addi c0_i32_557 v555
  v556.toNat
def k0_dev30 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_570 : BitVec 32 := 1#32
  let v565 : BitVec 32 := Scalar.muli v7 c1_i32_570
  let v566 : BitVec 32 := Scalar.addi c0_i32_571 v565
  v566.toNat
def k0_dev31 (d0 : Dev nD) : Nat :=
  let c0_i32_741 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_740 : BitVec 32 := 1#32
  let v786 : BitVec 32 := Scalar.muli v4 c1_i32_740
  let v787 : BitVec 32 := Scalar.addi c0_i32_741 v786
  v787.toNat
def k0_dev32 (d0 : Dev nD) : Nat :=
  let c0_i32_755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_754 : BitVec 32 := 1#32
  let v796 : BitVec 32 := Scalar.muli v7 c1_i32_754
  let v797 : BitVec 32 := Scalar.addi c0_i32_755 v796
  v797.toNat
def k0_dev33 (d0 : Dev nD) : Nat :=
  let c0_i32_797 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_796 : BitVec 32 := 1#32
  let v822 : BitVec 32 := Scalar.muli v4 c1_i32_796
  let v823 : BitVec 32 := Scalar.addi c0_i32_797 v822
  v823.toNat
def k0_dev34 (d0 : Dev nD) : Nat :=
  let c0_i32_811 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_810 : BitVec 32 := 1#32
  let v832 : BitVec 32 := Scalar.muli v7 c1_i32_810
  let v833 : BitVec 32 := Scalar.addi c0_i32_811 v832
  v833.toNat
def k0_dev35 (d0 : Dev nD) : Nat :=
  let c0_i32_853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_852 : BitVec 32 := 1#32
  let v858 : BitVec 32 := Scalar.muli v4 c1_i32_852
  let v859 : BitVec 32 := Scalar.addi c0_i32_853 v858
  v859.toNat
def k0_dev36 (d0 : Dev nD) : Nat :=
  let c0_i32_867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_866 : BitVec 32 := 1#32
  let v868 : BitVec 32 := Scalar.muli v7 c1_i32_866
  let v869 : BitVec 32 := Scalar.addi c0_i32_867 v868
  v869.toNat
def k0_dev37 (d0 : Dev nD) : Nat :=
  let c0_i32_909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_908 : BitVec 32 := 1#32
  let v894 : BitVec 32 := Scalar.muli v4 c1_i32_908
  let v895 : BitVec 32 := Scalar.addi c0_i32_909 v894
  v895.toNat
def k0_dev38 (d0 : Dev nD) : Nat :=
  let c0_i32_923 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_922 : BitVec 32 := 1#32
  let v904 : BitVec 32 := Scalar.muli v7 c1_i32_922
  let v905 : BitVec 32 := Scalar.addi c0_i32_923 v904
  v905.toNat
def k0_dev39 (d0 : Dev nD) : Nat :=
  let c0_i32_1093 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1092 : BitVec 32 := 1#32
  let v1125 : BitVec 32 := Scalar.muli v4 c1_i32_1092
  let v1126 : BitVec 32 := Scalar.addi c0_i32_1093 v1125
  v1126.toNat
def k0_dev40 (d0 : Dev nD) : Nat :=
  let c0_i32_1107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1106 : BitVec 32 := 1#32
  let v1135 : BitVec 32 := Scalar.muli v7 c1_i32_1106
  let v1136 : BitVec 32 := Scalar.addi c0_i32_1107 v1135
  v1136.toNat
def k0_dev41 (d0 : Dev nD) : Nat :=
  let c0_i32_1149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1148 : BitVec 32 := 1#32
  let v1161 : BitVec 32 := Scalar.muli v4 c1_i32_1148
  let v1162 : BitVec 32 := Scalar.addi c0_i32_1149 v1161
  v1162.toNat
def k0_dev42 (d0 : Dev nD) : Nat :=
  let c0_i32_1163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1162 : BitVec 32 := 1#32
  let v1171 : BitVec 32 := Scalar.muli v7 c1_i32_1162
  let v1172 : BitVec 32 := Scalar.addi c0_i32_1163 v1171
  v1172.toNat
def k0_dev43 (d0 : Dev nD) : Nat :=
  let c0_i32_1205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1204 : BitVec 32 := 1#32
  let v1197 : BitVec 32 := Scalar.muli v4 c1_i32_1204
  let v1198 : BitVec 32 := Scalar.addi c0_i32_1205 v1197
  v1198.toNat
def k0_dev44 (d0 : Dev nD) : Nat :=
  let c0_i32_1219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1218 : BitVec 32 := 1#32
  let v1207 : BitVec 32 := Scalar.muli v7 c1_i32_1218
  let v1208 : BitVec 32 := Scalar.addi c0_i32_1219 v1207
  v1208.toNat
def k0_dev45 (d0 : Dev nD) : Nat :=
  let c0_i32_1261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1260 : BitVec 32 := 1#32
  let v1233 : BitVec 32 := Scalar.muli v4 c1_i32_1260
  let v1234 : BitVec 32 := Scalar.addi c0_i32_1261 v1233
  v1234.toNat
def k0_dev46 (d0 : Dev nD) : Nat :=
  let c0_i32_1275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1274 : BitVec 32 := 1#32
  let v1243 : BitVec 32 := Scalar.muli v7 c1_i32_1274
  let v1244 : BitVec 32 := Scalar.addi c0_i32_1275 v1243
  v1244.toNat
def k0_dev47 (d0 : Dev nD) : Nat :=
  let c0_i32_1445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1444 : BitVec 32 := 1#32
  let v1464 : BitVec 32 := Scalar.muli v4 c1_i32_1444
  let v1465 : BitVec 32 := Scalar.addi c0_i32_1445 v1464
  v1465.toNat
def k0_dev48 (d0 : Dev nD) : Nat :=
  let c0_i32_1459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1458 : BitVec 32 := 1#32
  let v1474 : BitVec 32 := Scalar.muli v7 c1_i32_1458
  let v1475 : BitVec 32 := Scalar.addi c0_i32_1459 v1474
  v1475.toNat
def k0_dev49 (d0 : Dev nD) : Nat :=
  let c0_i32_1501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1500 : BitVec 32 := 1#32
  let v1500 : BitVec 32 := Scalar.muli v4 c1_i32_1500
  let v1501 : BitVec 32 := Scalar.addi c0_i32_1501 v1500
  v1501.toNat
def k0_dev50 (d0 : Dev nD) : Nat :=
  let c0_i32_1515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1514 : BitVec 32 := 1#32
  let v1510 : BitVec 32 := Scalar.muli v7 c1_i32_1514
  let v1511 : BitVec 32 := Scalar.addi c0_i32_1515 v1510
  v1511.toNat
def k0_dev51 (d0 : Dev nD) : Nat :=
  let c0_i32_1557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1556 : BitVec 32 := 1#32
  let v1536 : BitVec 32 := Scalar.muli v4 c1_i32_1556
  let v1537 : BitVec 32 := Scalar.addi c0_i32_1557 v1536
  v1537.toNat
def k0_dev52 (d0 : Dev nD) : Nat :=
  let c0_i32_1571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1570 : BitVec 32 := 1#32
  let v1546 : BitVec 32 := Scalar.muli v7 c1_i32_1570
  let v1547 : BitVec 32 := Scalar.addi c0_i32_1571 v1546
  v1547.toNat
def k0_dev53 (d0 : Dev nD) : Nat :=
  let c0_i32_1613 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1612 : BitVec 32 := 1#32
  let v1572 : BitVec 32 := Scalar.muli v4 c1_i32_1612
  let v1573 : BitVec 32 := Scalar.addi c0_i32_1613 v1572
  v1573.toNat
def k0_dev54 (d0 : Dev nD) : Nat :=
  let c0_i32_1627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1626 : BitVec 32 := 1#32
  let v1582 : BitVec 32 := Scalar.muli v7 c1_i32_1626
  let v1583 : BitVec 32 := Scalar.addi c0_i32_1627 v1582
  v1583.toNat
def k0_dev55 (d0 : Dev nD) : Nat :=
  let c0_i32_1788 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1787 : BitVec 32 := 1#32
  let v1795 : BitVec 32 := Scalar.muli v4 c1_i32_1787
  let v1796 : BitVec 32 := Scalar.addi c0_i32_1788 v1795
  v1796.toNat
def k0_dev56 (d0 : Dev nD) : Nat :=
  let c0_i32_1802 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1801 : BitVec 32 := 1#32
  let v1805 : BitVec 32 := Scalar.muli v7 c1_i32_1801
  let v1806 : BitVec 32 := Scalar.addi c0_i32_1802 v1805
  v1806.toNat
def k0_dev57 (d0 : Dev nD) : Nat :=
  let c0_i32_1844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1843 : BitVec 32 := 1#32
  let v1831 : BitVec 32 := Scalar.muli v4 c1_i32_1843
  let v1832 : BitVec 32 := Scalar.addi c0_i32_1844 v1831
  v1832.toNat
def k0_dev58 (d0 : Dev nD) : Nat :=
  let c0_i32_1858 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1857 : BitVec 32 := 1#32
  let v1841 : BitVec 32 := Scalar.muli v7 c1_i32_1857
  let v1842 : BitVec 32 := Scalar.addi c0_i32_1858 v1841
  v1842.toNat
def k0_dev59 (d0 : Dev nD) : Nat :=
  let c0_i32_1900 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1899 : BitVec 32 := 1#32
  let v1867 : BitVec 32 := Scalar.muli v4 c1_i32_1899
  let v1868 : BitVec 32 := Scalar.addi c0_i32_1900 v1867
  v1868.toNat
def k0_dev60 (d0 : Dev nD) : Nat :=
  let c0_i32_1914 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1913 : BitVec 32 := 1#32
  let v1877 : BitVec 32 := Scalar.muli v7 c1_i32_1913
  let v1878 : BitVec 32 := Scalar.addi c0_i32_1914 v1877
  v1878.toNat
def k0_dev61 (d0 : Dev nD) : Nat :=
  let c0_i32_1956 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1955 : BitVec 32 := 1#32
  let v1903 : BitVec 32 := Scalar.muli v4 c1_i32_1955
  let v1904 : BitVec 32 := Scalar.addi c0_i32_1956 v1903
  v1904.toNat
def k0_dev62 (d0 : Dev nD) : Nat :=
  let c0_i32_1970 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1969 : BitVec 32 := 1#32
  let v1913 : BitVec 32 := Scalar.muli v7 c1_i32_1969
  let v1914 : BitVec 32 := Scalar.addi c0_i32_1970 v1913
  v1914.toNat
def k0_dev63 (d0 : Dev nD) : Nat :=
  let c0_i32_2121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2120 : BitVec 32 := 1#32
  let v2118 : BitVec 32 := Scalar.muli v4 c1_i32_2120
  let v2119 : BitVec 32 := Scalar.addi c0_i32_2121 v2118
  v2119.toNat
def k0_dev64 (d0 : Dev nD) : Nat :=
  let c0_i32_2135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2134 : BitVec 32 := 1#32
  let v2128 : BitVec 32 := Scalar.muli v7 c1_i32_2134
  let v2129 : BitVec 32 := Scalar.addi c0_i32_2135 v2128
  v2129.toNat
def k0_dev65 (d0 : Dev nD) : Nat :=
  let c0_i32_2177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2176 : BitVec 32 := 1#32
  let v2154 : BitVec 32 := Scalar.muli v4 c1_i32_2176
  let v2155 : BitVec 32 := Scalar.addi c0_i32_2177 v2154
  v2155.toNat
def k0_dev66 (d0 : Dev nD) : Nat :=
  let c0_i32_2191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2190 : BitVec 32 := 1#32
  let v2164 : BitVec 32 := Scalar.muli v7 c1_i32_2190
  let v2165 : BitVec 32 := Scalar.addi c0_i32_2191 v2164
  v2165.toNat
def k0_dev67 (d0 : Dev nD) : Nat :=
  let c0_i32_2233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2232 : BitVec 32 := 1#32
  let v2190 : BitVec 32 := Scalar.muli v4 c1_i32_2232
  let v2191 : BitVec 32 := Scalar.addi c0_i32_2233 v2190
  v2191.toNat
def k0_dev68 (d0 : Dev nD) : Nat :=
  let c0_i32_2247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2246 : BitVec 32 := 1#32
  let v2200 : BitVec 32 := Scalar.muli v7 c1_i32_2246
  let v2201 : BitVec 32 := Scalar.addi c0_i32_2247 v2200
  v2201.toNat
def k0_dev69 (d0 : Dev nD) : Nat :=
  let c0_i32_2289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2288 : BitVec 32 := 1#32
  let v2226 : BitVec 32 := Scalar.muli v4 c1_i32_2288
  let v2227 : BitVec 32 := Scalar.addi c0_i32_2289 v2226
  v2227.toNat
def k0_dev70 (d0 : Dev nD) : Nat :=
  let c0_i32_2303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2302 : BitVec 32 := 1#32
  let v2236 : BitVec 32 := Scalar.muli v7 c1_i32_2302
  let v2237 : BitVec 32 := Scalar.addi c0_i32_2303 v2236
  v2237.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x256 : Shape := ⟨2, ![8192, 256]⟩
abbrev S256x32 : Shape := ⟨2, ![256, 32]⟩
abbrev S8192x1 : Shape := ⟨2, ![8192, 1]⟩
abbrev S32x256x512 : Shape := ⟨3, ![32, 256, 512]⟩
abbrev S_ : Shape := ⟨0, ![]⟩
abbrev S32x512 : Shape := ⟨2, ![32, 512]⟩
abbrev S32x1x512 : Shape := ⟨3, ![32, 1, 512]⟩
abbrev S32 : Shape := ⟨1, ![32]⟩
abbrev S1x32 : Shape := ⟨2, ![1, 32]⟩
abbrev S8192x32 : Shape := ⟨2, ![8192, 32]⟩
abbrev S32x512x8192 : Shape := ⟨3, ![32, 512, 8192]⟩
abbrev S32x8192x512 : Shape := ⟨3, ![32, 8192, 512]⟩
abbrev S32x8192 : Shape := ⟨2, ![32, 8192]⟩
abbrev S32x8192x1 : Shape := ⟨3, ![32, 8192, 1]⟩
abbrev S8192x512 : Shape := ⟨2, ![8192, 512]⟩

abbrev nBuf : Space → Nat
  | .hbm => 54
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x32, .bf16⟩
  | .hbm, ⟨2, _⟩ => ⟨S8192x1, .i32⟩
  | .hbm, ⟨3, _⟩ => ⟨S32x256x512, .bf16⟩
  | .hbm, ⟨4, _⟩ => ⟨S32x256x512, .f32⟩
  | .hbm, ⟨5, _⟩ => ⟨S32x256x512, .f32⟩
  | .hbm, ⟨6, _⟩ => ⟨S_, .f32⟩
  | .hbm, ⟨7, _⟩ => ⟨S32x512, .f32⟩
  | .hbm, ⟨8, _⟩ => ⟨S32x1x512, .f32⟩
  | .hbm, ⟨9, _⟩ => ⟨S_, .f32⟩
  | .hbm, ⟨10, _⟩ => ⟨S32x1x512, .f32⟩
  | .hbm, ⟨11, _⟩ => ⟨S32x1x512, .f32⟩
  | .hbm, ⟨12, _⟩ => ⟨S_, .f32⟩
  | .hbm, ⟨13, _⟩ => ⟨S32x1x512, .f32⟩
  | .hbm, ⟨14, _⟩ => ⟨S32x1x512, .f32⟩
  | .hbm, ⟨15, _⟩ => ⟨S32x256x512, .f32⟩
  | .hbm, ⟨16, _⟩ => ⟨S32x256x512, .f32⟩
  | .hbm, ⟨17, _⟩ => ⟨S32x256x512, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S32x256x512, .f32⟩
  | .hbm, ⟨22, _⟩ => ⟨S32x256x512, .f32⟩
  | .hbm, ⟨23, _⟩ => ⟨S_, .f32⟩
  | .hbm, ⟨24, _⟩ => ⟨S32x256x512, .f32⟩
  | .hbm, ⟨25, _⟩ => ⟨S32x256x512, .f32⟩
  | .hbm, ⟨26, _⟩ => ⟨S32x256x512, .i32⟩
  | .hbm, ⟨27, _⟩ => ⟨S32x256x512, .f32⟩
  | .hbm, ⟨28, _⟩ => ⟨S32x256x512, .f32⟩
  | .hbm, ⟨29, _⟩ => ⟨S32x256x512, .f32⟩
  | .hbm, ⟨30, _⟩ => ⟨S32, .i32⟩
  | .hbm, ⟨31, _⟩ => ⟨S1x32, .i32⟩
  | .hbm, ⟨32, _⟩ => ⟨S8192x32, .i32⟩
  | .hbm, ⟨33, _⟩ => ⟨S8192x32, .i32⟩
  | .hbm, ⟨34, _⟩ => ⟨S8192x32, .i1⟩
  | .hbm, ⟨35, _⟩ => ⟨S8192x32, .f32⟩
  | .hbm, ⟨36, _⟩ => ⟨S_, .f32⟩
  | .hbm, ⟨37, _⟩ => ⟨S_, .f32⟩
  | .hbm, ⟨38, _⟩ => ⟨S8192x32, .f32⟩
  | .hbm, ⟨39, _⟩ => ⟨S8192x32, .f32⟩
  | .hbm, ⟨40, _⟩ => ⟨S_, .f32⟩
  | .hbm, ⟨41, _⟩ => ⟨S8192x32, .f32⟩
  | .hbm, ⟨42, _⟩ => ⟨S8192x32, .i1⟩
  | .hbm, ⟨43, _⟩ => ⟨S8192x32, .f32⟩
  | .hbm, ⟨44, _⟩ => ⟨S8192x32, .f32⟩
  | .hbm, ⟨45, _⟩ => ⟨S8192x256, .f32⟩
  | .hbm, ⟨46, _⟩ => ⟨S32x512x8192, .f32⟩
  | .hbm, ⟨47, _⟩ => ⟨S32x8192x512, .f32⟩
  | .hbm, ⟨48, _⟩ => ⟨S32x8192, .f32⟩
  | .hbm, ⟨49, _⟩ => ⟨S32x8192x1, .f32⟩
  | .hbm, ⟨50, _⟩ => ⟨S32x8192x512, .f32⟩
  | .hbm, ⟨51, _⟩ => ⟨S32x8192x512, .f32⟩
  | .hbm, ⟨52, _⟩ => ⟨S_, .f32⟩
  | .hbm, ⟨53, _⟩ => ⟨S8192x512, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call2_call0_cst : Ref sig .tc := ⟨.hbm, 36, rfl⟩
abbrev main_call2_call0_v0 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== Proof.Proto.lean ====
/-
# The protocol of the ring: cells, regions, contents and the rounds schedule

Sixty-three transfers leave every device: weight chunk `q` of slot `h` of the first half to the device on the right
(`A`), of the second half to the device on the left (`B`), and the histogram and scales of the device to each of the
seven others (`M`). Every transfer has a send cell on its source and a receive cell on its target; the barrier cell of
a device is paid one unit by each of the seven others, with the places that device may write.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pointwise.Index

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices -/

/-- The device `k` places to the right. -/
def dsh (c : Dev nD) (k : ℕ) : Dev nD := ⟨(c.val + k) % 8, Nat.mod_lt _ (by decide)⟩

theorem dsh_val (c : Dev nD) (k : ℕ) : (dsh c k).val = (c.val + k) % 8 := rfl
theorem dev_lt (c : Dev nD) : c.val < 8 := c.isLt
theorem dsh_dsh (c : Dev nD) (a b : ℕ) : dsh (dsh c a) b = dsh c (a + b) := Fin.ext (by simp only [dsh_val]; omega)
theorem dsh_eight (c : Dev nD) : dsh c 8 = c := Fin.ext (by have := dev_lt c; simp only [dsh_val]; omega)
theorem dsh_zero (c : Dev nD) : dsh c 0 = c := Fin.ext (by have := dev_lt c; simp only [dsh_val]; omega)
theorem dsh_mod (c : Dev nD) {a b : ℕ} (h : a % 8 = b % 8) : dsh c a = dsh c b := Fin.ext (by simp only [dsh_val]; omega)
theorem dsh_inj (c : Dev nD) {a b : ℕ} (h : dsh c a = dsh c b) : a % 8 = b % 8 := by
  have := congrArg Fin.val h; simp only [dsh_val] at this; omega
theorem dsh_inj_left {c d : Dev nD} {a : ℕ} (h : dsh c a = dsh d a) : c = d :=
  Fin.ext (by have h1 := congrArg Fin.val h; have := dev_lt c; have := dev_lt d; simp only [dsh_val] at h1; omega)

/-! ## Transfers -/

abbrev T : Type := (Fin 7 × Fin 4) ⊕ (Fin 7 × Fin 4) ⊕ Fin 7

def tA (h q : ℕ) (hh : h < 7) (hq : q < 4) : T := .inl (⟨h, hh⟩, ⟨q, hq⟩)
def tB (h q : ℕ) (hh : h < 7) (hq : q < 4) : T := .inr (.inl (⟨h, hh⟩, ⟨q, hq⟩))
def tM (k : ℕ) (hk : k < 7) : T := .inr (.inr ⟨k, hk⟩)

/-- How far to the right the target of a transfer is. -/
def off : T → ℕ | .inl _ => 1 | .inr (.inl _) => 7 | .inr (.inr k) => k.val + 1
/-- The place of a transfer among the starts, -/
def sendIx : T → ℕ
  | .inl (h, q) => if h.val = 0 then 2 * q.val else 7 + 8 * h.val + 2 * q.val
  | .inr (.inl (h, q)) => if h.val = 0 then 2 * q.val + 1 else 7 + 8 * h.val + 2 * q.val + 1
  | .inr (.inr k) => 8 + k.val
def recvBase (h : ℕ) : ℕ := match h with | 0 => 0 | 1 => 10 | 2 => 20 | 3 => 30 | 4 => 39 | 5 => 47 | _ => 55
/-- among the waits for arrivals, -/
def recvIx : T → ℕ
  | .inl (h, q) => recvBase h + 2 * q.val
  | .inr (.inl (h, q)) => recvBase h + 2 * q.val + 1
  | .inr (.inr k) => match k.val with | 0 => 8 | 1 => 18 | 2 => 28 | 3 => 38 | 4 => 29 | 5 => 19 | _ => 9
/-- and among the waits for departures. -/
def swIx : T → ℕ
  | .inl (h, q) => 4 * h.val + q.val
  | .inr (.inl (h, q)) => 28 + (4 * h.val + q.val)
  | .inr (.inr k) => 56 + k.val

theorem off_lt (t : T) : off t < 8 := by rcases t with ⟨h, q⟩ | ⟨h, q⟩ | k <;> simp only [off] <;> omega
theorem off_pos (t : T) : 0 < off t := by rcases t with ⟨h, q⟩ | ⟨h, q⟩ | k <;> simp only [off] <;> omega
theorem sendIx_inj : ∀ t t' : T, sendIx t = sendIx t' → t = t' := by decide +kernel
theorem recvIx_inj : ∀ t t' : T, recvIx t = recvIx t' → t = t' := by decide +kernel
theorem swIx_inj : ∀ t t' : T, swIx t = swIx t' → t = t' := by decide +kernel
theorem sendIx_lt : ∀ t : T, sendIx t < 63 := by decide +kernel
theorem recvIx_lt : ∀ t : T, recvIx t < 63 := by decide +kernel
theorem swIx_lt : ∀ t : T, swIx t < 63 := by decide +kernel

/-- The target of device `c`'s transfer `t`, and the source of the one that arrives at `c`. -/
def peer (c : Dev nD) (t : T) : Dev nD := dsh c (off t)
def from_ (c : Dev nD) (t : T) : Dev nD := dsh c (8 - off t)
theorem peer_from (c : Dev nD) (t : T) : peer (from_ c t) t = c := by
  unfold peer from_; rw [dsh_dsh]; have := off_lt t
  exact (dsh_mod c (by omega)).trans (dsh_eight c)
theorem from_peer (c : Dev nD) (t : T) : from_ (peer c t) t = c := by
  unfold peer from_; rw [dsh_dsh]; have := off_lt t
  exact (dsh_mod c (by omega)).trans (dsh_eight c)
def peerE (t : T) : Dev nD ≃ Dev nD := ⟨fun c => peer c t, fun c => from_ c t, fun c => from_peer c t, fun c => peer_from c t⟩

/-! ## Cells -/

def sendNo : T → ℕ
  | .inl (h, q) => 4 + (4 * h.val + q.val) | .inr (.inl (h, q)) => 60 + (4 * h.val + q.val) | .inr (.inr k) => 116 + k.val
def recvNo : T → ℕ
  | .inl (h, q) => 32 + (4 * h.val + q.val) | .inr (.inl (h, q)) => 88 + (4 * h.val + q.val) | .inr (.inr k) => 123 + k.val
theorem sendNo_lt : ∀ t : T, sendNo t < 130 := by decide +kernel
theorem recvNo_lt : ∀ t : T, recvNo t < 130 := by decide +kernel
theorem sendNo_inj : ∀ t t' : T, sendNo t = sendNo t' → t = t' := by decide +kernel
theorem recvNo_inj : ∀ t t' : T, recvNo t = recvNo t' → t = t' := by decide +kernel
theorem sendNo_ne_recvNo : ∀ t t' : T, sendNo t ≠ recvNo t' := by decide +kernel
theorem no_ge : ∀ t : T, 4 ≤ sendNo t ∧ 4 ≤ recvNo t := by decide +kernel

def sendD (t : T) : DmaSem sig := ⟨sendNo t, sendNo_lt t⟩
def recvD (t : T) : DmaSem sig := ⟨recvNo t, recvNo_lt t⟩
abbrev barS : Sem sig := (SemArray.scalar (sig.barrier 0 rfl) : Sems sig S_).sem

abbrev barCell (c : Dev nD) : GSem nD τ sig := ((c : Thread nD τ), .reg barS)
abbrev sendCell (c : Dev nD) (t : T) : GSem nD τ sig := ((c : Thread nD τ), .dma (sendD t))
abbrev recvCell (c : Dev nD) (t : T) : GSem nD τ sig := ((c : Thread nD τ), .dma (recvD t))

/-- A device's cells: the barrier, a send cell and a receive cell for each transfer. -/
abbrev CI : Type := Unit ⊕ T ⊕ T
def csem : CI → SemLoc sig | .inl _ => .reg barS | .inr (.inl t) => .dma (sendD t) | .inr (.inr t) => .dma (recvD t)
abbrev kcell (ck : Dev nD × CI) : GSem nD τ sig := ((ck.1 : Thread nD τ), csem ck.2)

theorem sendD_inj {t t' : T} (h : sendD t = sendD t') : t = t' := sendNo_inj t t' (congrArg Fin.val h)
theorem recvD_inj {t t' : T} (h : recvD t = recvD t') : t = t' := recvNo_inj t t' (congrArg Fin.val h)
theorem sendD_ne_recvD (t t' : T) : sendD t ≠ recvD t' := fun h => sendNo_ne_recvNo t t' (congrArg Fin.val h)

/-- The semaphores as the program names them. -/
theorem inb74 (h : Fin 7) (q : Fin 4) : ∀ a, (![h.val, q.val] : Fin 2 → ℕ) a + S1x1.size a ≤ S7x4.size a := by
  intro a; fin_cases a
  · show h.val + 1 ≤ 7; omega
  · show q.val + 1 ≤ 4; omega
theorem inb7 (k : Fin 7) : ∀ a, (![k.val] : Fin 1 → ℕ) a + S1.size a ≤ S7.size a := by
  intro a; fin_cases a
  show k.val + 1 ≤ 7; omega
theorem semA_send' : ∀ (h : Fin 7) (q : Fin 4), ((cc0_scratch3.slice (Rect.unit (s := S7x4) ![h.val, q.val] S1x1.size (inb74 h q))).squeeze S_ squeezes_S1x1_S_).sem
    = sendD (.inl (h, q)) := by decide +kernel
theorem semA_recv' : ∀ (h : Fin 7) (q : Fin 4), ((cc0_scratch4.slice (Rect.unit (s := S7x4) ![h.val, q.val] S1x1.size (inb74 h q))).squeeze S_ squeezes_S1x1_S_).sem
    = recvD (.inl (h, q)) := by decide +kernel
theorem semB_send' : ∀ (h : Fin 7) (q : Fin 4), ((cc0_scratch5.slice (Rect.unit (s := S7x4) ![h.val, q.val] S1x1.size (inb74 h q))).squeeze S_ squeezes_S1x1_S_).sem
    = sendD (.inr (.inl (h, q))) := by decide +kernel
theorem semB_recv' : ∀ (h : Fin 7) (q : Fin 4), ((cc0_scratch6.slice (Rect.unit (s := S7x4) ![h.val, q.val] S1x1.size (inb74 h q))).squeeze S_ squeezes_S1x1_S_).sem
    = recvD (.inr (.inl (h, q))) := by decide +kernel
theorem semM_send' : ∀ (k : Fin 7), ((cc0_scratch7.slice (Rect.unit (s := S7) ![k.val] S1.size (inb7 k))).squeeze S_ squeezes_S1_S_).sem
    = sendD (.inr (.inr k)) := by decide +kernel
theorem semM_recv' : ∀ (k : Fin 7), ((cc0_scratch8.slice (Rect.unit (s := S7) ![k.val] S1.size (inb7 k))).squeeze S_ squeezes_S1_S_).sem
    = recvD (.inr (.inr k)) := by decide +kernel

/-! ## Memrefs and regions -/

abbrev xM : Memref sig .tc .vmem S1024x256 .bf16 := Memref.whole cc0_stg0_0
abbrev iM : Memref sig .tc .vmem S1024x1 .i32 := Memref.whole cc0_stg1_0
abbrev wM : Memref sig .tc .vmem S4x256x512 .bf16 := Memref.whole cc0_stg2_0
abbrev oM : Memref sig .tc .vmem S1024x512 .f32 := Memref.whole cc0_stg3_0
abbrev aM : Memref sig .tc .vmem S8x4x256x256 .i8 := Memref.whole cc0_scratch0
abbrev bM : Memref sig .tc .vmem S8x4x256x256 .i8 := Memref.whole cc0_scratch1
abbrev mM : Memref sig .tc .vmem S8x5x512 .f32 := Memref.whole cc0_scratch2

/-- Chunk `q` of slot `s` of a weight buffer, slot `k` of the metadata buffer. -/
def setW (s q : ℕ) : Finset S8x4x256x256.Idx := Finset.univ.filter fun i => (i 0).val = s ∧ (i 1).val = q
def setM (k : ℕ) : Finset S8x5x512.Idx := Finset.univ.filter fun i => (i 0).val = k
theorem mem_setW {s q : ℕ} {i : S8x4x256x256.Idx} : i ∈ setW s q ↔ (i 0).val = s ∧ (i 1).val = q := by simp [setW]
theorem mem_setM {k : ℕ} {i : S8x5x512.Idx} : i ∈ setM k ↔ (i 0).val = k := by simp [setM]

theorem rectW_set (s q : ℕ) (inb) : (Rect.unit (s := S8x4x256x256) ![s, q, 0, 0] S1x1x256x256.size inb).set = setW s q := by
  ext i
  rw [Rect.mem_set_unit, mem_setW, Fin.forall_fin_succ, Fin.forall_fin_succ, Fin.forall_fin_two]
  have h2 : (i 2).val < 256 := (i 2).isLt
  have h3 : (i 3).val < 256 := (i 3).isLt
  show (s ≤ (i 0).val ∧ (i 0).val < s + 1) ∧ (q ≤ (i 1).val ∧ (i 1).val < q + 1) ∧ (0 ≤ (i 2).val ∧ (i 2).val < 0 + 256) ∧ (0 ≤ (i 3).val ∧ (i 3).val < 0 + 256) ↔ _
  omega
theorem rectM_set (k : ℕ) (inb) : (Rect.unit (s := S8x5x512) ![k, 0, 0] S1x5x512.size inb).set = setM k := by
  ext i
  rw [Rect.mem_set_unit, mem_setM, Fin.forall_fin_succ, Fin.forall_fin_two]
  have h1 : (i 1).val < 5 := (i 1).isLt
  have h2 : (i 2).val < 512 := (i 2).isLt
  show (k ≤ (i 0).val ∧ (i 0).val < k + 1) ∧ (0 ≤ (i 1).val ∧ (i 1).val < 0 + 5) ∧ (0 ≤ (i 2).val ∧ (i 2).val < 0 + 512) ↔ _
  omega

abbrev ptA (c : Dev nD) (s q : ℕ) (π : PosShare TreeShare) (f : Buf (Elt F) ((c : Thread nD τ).loc cc0_scratch0)) : sProp 𝕄 :=
  ((c : Thread nD τ).loc cc0_scratch0) ↦[setW s q]{π} f
abbrev ptB (c : Dev nD) (s q : ℕ) (π : PosShare TreeShare) (f : Buf (Elt F) ((c : Thread nD τ).loc cc0_scratch1)) : sProp 𝕄 :=
  ((c : Thread nD τ).loc cc0_scratch1) ↦[setW s q]{π} f
abbrev ptM (c : Dev nD) (k : ℕ) (π : PosShare TreeShare) (f : Buf (Elt F) ((c : Thread nD τ).loc cc0_scratch2)) : sProp 𝕄 :=
  ((c : Thread nD τ).loc cc0_scratch2) ↦[setM k]{π} f

/-! ## Contents -/

variable (W : Dev nD → Vec F S4x256x512 .bf16) (IX : Dev nD → Vec F S1024x1 .i32)

/-- What the first-half buffer of device `c` comes to hold: slot `s` the quantised weights of the device `s` places to the left; -/
def GA (c : Dev nD) : S8x4x256x256.Idx → Elt F .i8 :=
  fun i => k0_pay5 (W (dsh c (8 - (i 0).val))) (ix4 (0 : Fin 1) (i 1) (i 2) (i 3))
/-- the second-half buffer: of the device `s` places to the right; -/
def GB (c : Dev nD) : S8x4x256x256.Idx → Elt F .i8 :=
  fun i => k0_pay7 (k0_pay6 (W (dsh c (i 0).val))) (ix4 (0 : Fin 1) (i 1) (i 2) (i 3))
/-- the metadata buffer: slot `k` the histogram and the scales of the device `k` places to the left. -/
def GM (c : Dev nD) : S8x5x512.Idx → Elt F .f32 :=
  fun i => k0_pay11 (F := F) (k0_pay10 (k0_pay3 (W (dsh c (8 - (i 0).val)))) (IX (dsh c (8 - (i 0).val)))) (ix3 (0 : Fin 1) (i 1) (i 2))

/-- The share of the metadata's slot 0 left after `k` transfers have taken theirs, and the one transfer `k` takes. -/
def restS : ℕ → PosShare TreeShare | 0 => fullShare | k + 1 => (restS k).right
def tokS (k : ℕ) : PosShare TreeShare := (restS k).left

/-- What a transfer hands its source back, -/
def sendPay (c : Dev nD) : T → sProp 𝕄
  | .inl (h, q) => ptA c h q fullShare.left (GA W c)
  | .inr (.inl (h, q)) => ptB c h q fullShare.left (GB W c)
  | .inr (.inr k) => ptM c 0 (tokS k) (GM W IX c)
/-- its target, -/
def recvPay (c : Dev nD) : T → sProp 𝕄
  | .inl (h, q) => ptA c (h + 1) q fullShare (GA W c)
  | .inr (.inl (h, q)) => ptB c (h + 1) q fullShare (GB W c)
  | .inr (.inr k) => ptM c (k + 1) fullShare (GM W IX c)
/-- and what its target gives up beforehand. -/
def dstAny (c : Dev nD) : T → sProp 𝕄
  | .inl (h, q) => iprop(∃ f, ptA c (h + 1) q fullShare f)
  | .inr (.inl (h, q)) => iprop(∃ f, ptB c (h + 1) q fullShare f)
  | .inr (.inr k) => iprop(∃ f, ptM c (k + 1) fullShare f)
/-- What duty `d` of device `c`'s barrier cell hands it: the places on the payer that `c`'s transfers write. -/
def barPay (c : Dev nD) (d : Fin 7) : sProp 𝕄 :=
  bigSep Finset.univ fun t : T => if off t = 7 - d.val then dstAny (dsh c (7 - d.val)) t else iprop(emp)

omit [FloatOps F] in
instance dstAny_storable (c : Dev nD) (t : T) : BI.Storable (upEmb : UEmb _ 𝕄) (dstAny (F := F) c t) := by
  rcases t with ⟨h, q⟩ | ⟨h, q⟩ | k <;> unfold dstAny <;> infer_instance
instance sendPay_storable (c : Dev nD) (t : T) : BI.Storable (upEmb : UEmb _ 𝕄) (sendPay (F := F) W IX c t) := by
  rcases t with ⟨h, q⟩ | ⟨h, q⟩ | k <;> unfold sendPay <;> infer_instance
instance recvPay_storable (c : Dev nD) (t : T) : BI.Storable (upEmb : UEmb _ 𝕄) (recvPay (F := F) W IX c t) := by
  rcases t with ⟨h, q⟩ | ⟨h, q⟩ | k <;> unfold recvPay <;> infer_instance
omit [FloatOps F] in
instance barPay_storable (c : Dev nD) (d : Fin 7) : BI.Storable (upEmb : UEmb _ 𝕄) (barPay (F := F) c d) := by
  have h : ∀ t : T, BI.Storable (upEmb : UEmb _ 𝕄) (if off t = 7 - d.val then dstAny (F := F) (dsh c (7 - d.val)) t else iprop(emp)) :=
    fun t => by split <;> infer_instance
  unfold barPay; infer_instance

/-! ## The amounts -/

theorem inbW {s q : ℕ} (hs : s < 8) (hq : q < 4) : ∀ a, (![s, q, 0, 0] : Fin 4 → ℕ) a + S1x1x256x256.size a ≤ S8x4x256x256.size a := by
  intro a; fin_cases a
  · show s + 1 ≤ 8; omega
  · show q + 1 ≤ 4; omega
  · show 0 + 256 ≤ 256; omega
  · show 0 + 256 ≤ 256; omega
theorem inbM {k : ℕ} (hk : k < 8) : ∀ a, (![k, 0, 0] : Fin 3 → ℕ) a + S1x5x512.size a ≤ S8x5x512.size a := by
  intro a; fin_cases a
  · show k + 1 ≤ 8; omega
  · show 0 + 5 ≤ 5; omega
  · show 0 + 512 ≤ 512; omega

/-- A chunk and a metadata slot as the program addresses them. -/
abbrev chk (m : Memref sig .tc .vmem S8x4x256x256 .i8) (s q : ℕ) (inb : ∀ a, (![s, q, 0, 0] : Fin 4 → ℕ) a + S1x1x256x256.size a ≤ S8x4x256x256.size a) :
    Memref sig .tc .vmem S1x256x256 .i8 :=
  (m.slice (Rect.unit (s := S8x4x256x256) ![s, q, 0, 0] S1x1x256x256.size inb) (fun _ => rfl)).squeeze S1x256x256 squeezes_S1x1x256x256_S1x256x256
abbrev slt (m : Memref sig .tc .vmem S8x5x512 .f32) (k : ℕ) (inb : ∀ a, (![k, 0, 0] : Fin 3 → ℕ) a + S1x5x512.size a ≤ S8x5x512.size a) :
    Memref sig .tc .vmem S5x512 .f32 :=
  (m.slice (Rect.unit (s := S8x5x512) ![k, 0, 0] S1x5x512.size inb) (fun _ => rfl)).squeeze S5x512 squeezes_S1x5x512_S5x512

def creditW : ℕ := (chk aM 0 0 (inbW (by decide) (by decide))).view.dmaCredit
def creditM : ℕ := (slt mM 0 (inbM (by decide))).view.dmaCredit
theorem creditW_pos : 0 < creditW := View.dmaCredit_pos _ (by decide)
theorem creditM_pos : 0 < creditM := View.dmaCredit_pos _ (by decide)
theorem creditA_eq (s q : ℕ) (inb) : (chk aM s q inb).view.dmaCredit = creditW := rfl
theorem creditB_eq (s q : ℕ) (inb) : (chk bM s q inb).view.dmaCredit = creditW := rfl
theorem creditM_eq (k : ℕ) (inb) : (slt mM k inb).view.dmaCredit = creditM := rfl

def amt : T → ℕ | .inl _ => creditW | .inr (.inl _) => creditW | .inr (.inr _) => creditM
theorem amt_pos (t : T) : 0 < amt t := by
  rcases t with _ | _ | _
  · exact creditW_pos
  · exact creditW_pos
  · exact creditM_pos

/-! ## The schedule -/

abbrev IsBar (g : GSem nD τ sig) : Prop := g.1.2 = .tc ∧ g.2 = .reg barS
abbrev IsXfer (g : GSem nD τ sig) : Prop := g.1.2 = .tc ∧ ∃ t, g.2 = .dma (sendD t) ∨ g.2 = .dma (recvD t)

open Classical in
def rd : Rounds.Schedule (GSem nD τ sig) (Fin 7) 𝕄 where
  duties g r := if r = 0 ∧ IsBar g then Finset.univ else if r = 0 ∧ IsXfer g then {0} else ∅
  unitless _ := False
  amount g _ _ := if h : ∃ t, g.2 = .dma (sendD t) ∨ g.2 = .dma (recvD t) then amt h.choose else 1
  payload g _ d :=
    if hs : ∃ t, g.2 = .dma (sendD t) then sendPay W IX g.1.1 hs.choose
    else if hr : ∃ t, g.2 = .dma (recvD t) then recvPay W IX g.1.1 hr.choose
    else barPay g.1.1 d
  amount_pos g _ _ _ := by
    split
    · exact amt_pos _
    · exact Nat.one_pos

instance rd_payload_storable (g : GSem nD τ sig) (r : ℕ) (d : Fin 7) :
    BI.Storable (upEmb : UEmb _ 𝕄) ((rd (F := F) W IX).payload g r d) := by
  dsimp only [rd]
  split
  · infer_instance
  · split <;> infer_instance

section Sched
variable (c : Dev nD) (t : T)

theorem dma_ne_bar (d : DmaSem sig) : (SemLoc.dma d : SemLoc sig) ≠ .reg barS := fun h => by cases h
theorem send_ne_recv (t t' : T) : (SemLoc.dma (sendD t) : SemLoc sig) ≠ .dma (recvD t') := fun h => by
  injection h with h; exact sendD_ne_recvD t t' h

theorem no_xfer_bar : ¬ ∃ t, (SemLoc.reg barS : SemLoc sig) = .dma (sendD t) ∨ (SemLoc.reg barS : SemLoc sig) = .dma (recvD t) := by
  rintro ⟨t, h | h⟩ <;> cases h

theorem duties_bar : (rd (F := F) W IX).duties (barCell c) 0 = Finset.univ := by dsimp only [rd]; exact if_pos ⟨rfl, rfl, rfl⟩
theorem duties_send : (rd (F := F) W IX).duties (sendCell c t) 0 = {0} := by
  dsimp only [rd]; rw [if_neg (fun h => dma_ne_bar _ h.2.2)]; exact if_pos ⟨rfl, rfl, t, .inl rfl⟩
theorem duties_recv : (rd (F := F) W IX).duties (recvCell c t) 0 = {0} := by
  dsimp only [rd]; rw [if_neg (fun h => dma_ne_bar _ h.2.2)]; exact if_pos ⟨rfl, rfl, t, .inr rfl⟩
theorem duties_later (g : GSem nD τ sig) : ∀ r, 1 ≤ r → (rd (F := F) W IX).duties g r = ∅ :=
  fun r hr => by dsimp only [rd]; rw [if_neg fun h => by omega, if_neg fun h => by omega]

theorem amount_bar (d : Fin 7) : (rd (F := F) W IX).amount (barCell c) 0 d = 1 := by dsimp only [rd]; exact dif_neg no_xfer_bar
theorem amount_send (d : Fin 7) : (rd (F := F) W IX).amount (sendCell c t) 0 d = amt t := by
  have h : ∃ t', (SemLoc.dma (sendD t) : SemLoc sig) = .dma (sendD t') ∨ (SemLoc.dma (sendD t) : SemLoc sig) = .dma (recvD t') := ⟨t, .inl rfl⟩
  dsimp only [rd]; rw [dif_pos h]
  rcases h.choose_spec with h' | h'
  · injection h' with h'; rw [← sendD_inj h']
  · exact absurd h' (send_ne_recv _ _)
theorem amount_recv (d : Fin 7) : (rd (F := F) W IX).amount (recvCell c t) 0 d = amt t := by
  have h : ∃ t', (SemLoc.dma (recvD t) : SemLoc sig) = .dma (sendD t') ∨ (SemLoc.dma (recvD t) : SemLoc sig) = .dma (recvD t') := ⟨t, .inr rfl⟩
  dsimp only [rd]; rw [dif_pos h]
  rcases h.choose_spec with h' | h'
  · exact absurd h'.symm (send_ne_recv _ _)
  · injection h' with h'; rw [← recvD_inj h']

theorem expect_bar : (rd (F := F) W IX).expect (barCell c) 0 = 7 := by
  unfold Schedule.expect Schedule.amountOf
  rw [duties_bar, Finset.sum_congr rfl fun d _ => amount_bar W IX c d, Finset.sum_const, Finset.card_univ, Fintype.card_fin, smul_eq_mul]
theorem expect_send : (rd (F := F) W IX).expect (sendCell c t) 0 = amt t := by
  unfold Schedule.expect Schedule.amountOf; rw [duties_send, Finset.sum_singleton, amount_send]
theorem expect_recv : (rd (F := F) W IX).expect (recvCell c t) 0 = amt t := by
  unfold Schedule.expect Schedule.amountOf; rw [duties_recv, Finset.sum_singleton, amount_recv]

theorem payload_send (d : Fin 7) : (rd (F := F) W IX).payload (sendCell c t) 0 d = sendPay W IX c t := by
  have h : ∃ t', (SemLoc.dma (sendD t) : SemLoc sig) = .dma (sendD t') := ⟨t, rfl⟩
  dsimp only [rd]; rw [dif_pos h]
  have h' := h.choose_spec; injection h' with h'; rw [← sendD_inj h']
theorem payload_recv (d : Fin 7) : (rd (F := F) W IX).payload (recvCell c t) 0 d = recvPay W IX c t := by
  have h : ∃ t', (SemLoc.dma (recvD t) : SemLoc sig) = .dma (recvD t') := ⟨t, rfl⟩
  dsimp only [rd]; rw [dif_neg (fun ⟨t', h'⟩ => send_ne_recv _ _ h'.symm), dif_pos h]
  have h' := h.choose_spec; injection h' with h'; rw [← recvD_inj h']
theorem payload_bar (d : Fin 7) : (rd (F := F) W IX).payload (barCell c) 0 d = barPay c d := by
  dsimp only [rd]; rw [dif_neg (fun ⟨t', h'⟩ => by cases h'), dif_neg (fun ⟨t', h'⟩ => by cases h')]

theorem rest_send : bigSep ((rd (F := F) W IX).duties (sendCell c t) 0 \ ∅) (fun d => (rd (F := F) W IX).payload (sendCell c t) 0 d) = sendPay W IX c t := by
  rw [Finset.sdiff_empty, duties_send, bigSep_singleton, payload_send]
theorem rest_recv : bigSep ((rd (F := F) W IX).duties (recvCell c t) 0 \ ∅) (fun d => (rd (F := F) W IX).payload (recvCell c t) 0 d) = recvPay W IX c t := by
  rw [Finset.sdiff_empty, duties_recv, bigSep_singleton, payload_recv]

/-- All seven units of the barrier hand over every place the device's transfers write. -/
theorem rest_bar : bigSep ((rd (F := F) W IX).duties (barCell c) 0 \ ∅) (fun d => (rd (F := F) W IX).payload (barCell c) 0 d)
    ⊢ (bigSep Finset.univ fun t : T => dstAny (peer c t) t : sProp 𝕄) := by
  rw [Finset.sdiff_empty, duties_bar, bigSep_congr fun d _ => payload_bar W IX c d]
  unfold barPay
  rw [bigSep_univ_comm]
  refine bigSep_mono fun t _ => ?_
  have h1 := off_pos t
  have h2 := off_lt t
  refine (bigSep_elim (i := (⟨7 - off t, by omega⟩ : Fin 7)) (Finset.mem_univ _)).trans ?_
  have h3 : 7 - (7 - off t) = off t := by omega
  dsimp only
  rw [h3, if_pos rfl]
  exact BI.Entails.refl _
end Sched

end Cert.Moe

end
-- ==== Proof.State.lean ====
/-
# The state of a device while its body runs

One assertion `Inv z s r w a b`: `z` of the three own stores made, `s` transfers started, `r` arrivals and `w`
departures waited for, the two halves of the result holding `a` and `b`. What a transfer's resources are is read off by
comparing its place in each order with the counter, so a step of the program changes one transfer's entry in a few
families.
-/
module

public import proofs.«01_k».proof.Proof.Proto

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families -/

section Fam
variable {M : Type} [URA M] {I : Type} [Fintype I] [DecidableEq I]

/-- One entry of a family taken out, and another family put together with it. -/
theorem fam_swap {Φ Ψ : I → sProp M} (a : I) (h : ∀ i, i ≠ a → Φ i = Ψ i) :
    bigSep Finset.univ Φ ⊢ iprop(Φ a ∗ (Ψ a -∗ bigSep Finset.univ Ψ)) := by
  have h1 : bigSep Finset.univ Φ = iprop(Φ a ∗ bigSep (Finset.univ.erase a) Ψ) := by
    rw [← bigSep_congr (fun i hi => h i (Finset.ne_of_mem_erase hi))]; exact bigSep_erase (Finset.mem_univ a)
  have h2 : bigSep Finset.univ Ψ = iprop(Ψ a ∗ bigSep (Finset.univ.erase a) Ψ) := bigSep_erase (Finset.mem_univ a)
  rw [h1, h2]
  iintro ⟨Ha, Hr⟩
  isplitl [Ha]; · iexact Ha
  iintro Ha
  isplitl [Ha]; · iexact Ha
  iexact Hr

/-- A family filled in where it was empty. -/
theorem fam_fill {Φ Ψ Ξ : I → sProp M} (h : ∀ i, iprop(Φ i ∗ Ψ i) ⊢ Ξ i) :
    iprop(bigSep Finset.univ Φ ∗ bigSep Finset.univ Ψ) ⊢ bigSep Finset.univ Ξ := by
  rw [← bigSep_sep']; exact bigSep_mono fun i _ => h i
end Fam

/-! ## Levels and debts -/

def lvT : T → ℕ | .inl (h, q) => 3 + 4 * h.val + q.val | .inr (.inl (h, q)) => 3 + 4 * h.val + q.val | .inr (.inr _) => 2

def L (g : GSem nD τ sig) : Finset Unit := if g.1.2 = .tc then {()} else ∅
open Classical in
/-- Barrier cells at 1, receive cells by the order of their arrivals from 2 on, everything else at 0. -/
def lv (g : GSem nD τ sig) (_ : Unit) : ℕ :=
  if g.2 = .reg barS then 1 else if h : ∃ t, g.2 = .dma (recvD t) then lvT h.choose else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; exact if_pos rfl
theorem lv_recv (c : Dev nD) (t : T) (u : Unit) : lv (recvCell c t) u = lvT t := by
  have h : ∃ t', (SemLoc.dma (recvD t) : SemLoc sig) = .dma (recvD t') := ⟨t, rfl⟩
  unfold lv; rw [if_neg (dma_ne_bar _), dif_pos h]
  have h' := h.choose_spec; injection h' with h'; rw [← recvD_inj h']
theorem lv_dma (c : Dev nD) (q : DmaSem sig) (hq : ∀ t, q ≠ recvD t) (u : Unit) : lv ((c : Thread nD τ), .dma q) u = 0 := by
  unfold lv; rw [if_neg (dma_ne_bar _), dif_neg]
  rintro ⟨t, h⟩; injection h with h; exact hq t h
theorem lvT_pos (t : T) : 1 < lvT t := by rcases t with ⟨h, q⟩ | ⟨h, q⟩ | k <;> simp only [lvT] <;> omega

/-- What device `c` still owes: the arrivals of the transfers it has not started, -/
def Os (c : Dev nD) (s : ℕ) : CellTallies nD τ sig Unit :=
  ∑ t ∈ Finset.univ.filter (fun t => s ≤ sendIx t), tallyAt (recvCell (peer c t) t) () (amt t)
/-- and the barrier units it has not signalled. -/
def Ob (c : Dev nD) (n : ℕ) : CellTallies nD τ sig Unit :=
  ∑ d ∈ (Finset.univ : Finset (Fin 7)).filter (fun d => n ≤ d.val), tallyAt (barCell (dsh c (d.val + 1))) () 1

theorem sum_peel {I M : Type} [Fintype I] [DecidableEq I] [AddCommMonoid M] (ix : I → ℕ) (hix : ∀ i j, ix i = ix j → i = j) (f : I → M) (a : I) :
    ∑ i ∈ Finset.univ.filter (fun i => ix a ≤ ix i), f i = ∑ i ∈ Finset.univ.filter (fun i => ix a + 1 ≤ ix i), f i + f a := by
  have h : (Finset.univ.filter fun i => ix a ≤ ix i) = insert a (Finset.univ.filter fun i => ix a + 1 ≤ ix i) := by
    ext i
    simp only [Finset.mem_filter, Finset.mem_univ, true_and, Finset.mem_insert]
    constructor
    · intro hi
      by_cases he : ix i = ix a
      · exact Or.inl (hix _ _ he)
      · exact Or.inr (by omega)
    · rintro (rfl | hi) <;> omega
  rw [h, Finset.sum_insert (by simp), add_comm]

theorem Os_peel (c : Dev nD) (t : T) : Os c (sendIx t) = Os c (sendIx t + 1) + tallyAt (recvCell (peer c t) t) () (amt t) :=
  sum_peel sendIx sendIx_inj _ t
theorem Ob_peel (c : Dev nD) (d : Fin 7) : Ob c d.val = Ob c (d.val + 1) + tallyAt (barCell (dsh c (d.val + 1))) () 1 :=
  sum_peel (fun d : Fin 7 => d.val) (fun _ _ h => Fin.ext h) _ d
theorem Os_end (c : Dev nD) : Os c 63 = 0 := by
  unfold Os; rw [Finset.filter_eq_empty_iff.mpr (fun t _ => by have := sendIx_lt t; omega)]; rfl
theorem Ob_end (c : Dev nD) : Ob c 7 = 0 := by
  unfold Ob; rw [Finset.filter_eq_empty_iff.mpr (fun d _ => by have := d.isLt; omega)]; rfl

theorem sum_pos_cell {I : Type} [DecidableEq I] (S : Finset I) (f : I → CellTallies nD τ sig Unit) {g : GSem nD τ sig} {u : Unit}
    (h : 0 < (∑ i ∈ S, f i) g u) : ∃ i ∈ S, 0 < f i g u := by
  induction S using Finset.induction_on with
  | empty => rw [Finset.sum_empty] at h; exact absurd h (Nat.lt_irrefl 0)
  | insert a S ha ih =>
    rw [Finset.sum_insert ha, Pi.add_apply, Finsupp.add_apply] at h
    by_cases h0 : 0 < f a g u
    · exact ⟨a, Finset.mem_insert_self _ _, h0⟩
    · obtain ⟨i, hi, hp⟩ := ih (by omega)
      exact ⟨i, Finset.mem_insert_of_mem hi, hp⟩
theorem tally_pos {g' g : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h
theorem Os_pos {c : Dev nD} {s : ℕ} {g : GSem nD τ sig} {u : Unit} (h : 0 < Os c s g u) : ∃ t, s ≤ sendIx t ∧ g = recvCell (peer c t) t := by
  obtain ⟨t, ht, hp⟩ := sum_pos_cell _ _ h
  exact ⟨t, (Finset.mem_filter.mp ht).2, tally_pos hp⟩
theorem Ob_pos {c : Dev nD} {n : ℕ} {g : GSem nD τ sig} {u : Unit} (h : 0 < Ob c n g u) : ∃ d, g = barCell d := by
  obtain ⟨d, _, hp⟩ := sum_pos_cell _ _ h
  exact ⟨_, tally_pos hp⟩

omit [FloatOps F] in
theorem mayWait_at (c : Dev nD) (sm : SemLoc sig) (n : ℕ) (hn : lv ((c : Thread nD τ), sm) () = n) (O : CellTallies nD τ sig Unit)
    (hO : ∀ g u, 0 < O g u → g.1.2 = .tc ∧ n < lv g ()) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn.le)
    (fun g u hg => (hO g u hg).2)

/-! ## The order a buffer's chunks travel in -/

/-- The transfer that brought what a transfer passes on; -/
def prev : T → Option T
  | .inl (h, q) => if 0 < h.val then some (.inl (⟨h.val - 1, by omega⟩, q)) else none
  | .inr (.inl (h, q)) => if 0 < h.val then some (.inr (.inl (⟨h.val - 1, by omega⟩, q))) else none
  | .inr (.inr _) => none
/-- the one that passes on what a transfer brought. -/
def next : T → Option T
  | .inl (h, q) => if hh : h.val < 6 then some (.inl (⟨h.val + 1, by omega⟩, q)) else none
  | .inr (.inl (h, q)) => if hh : h.val < 6 then some (.inr (.inl (⟨h.val + 1, by omega⟩, q))) else none
  | .inr (.inr _) => none
/-- Which own store a transfer without a predecessor waits for. -/
def rank : T → ℕ | .inl _ => 1 | .inr (.inl _) => 2 | .inr (.inr _) => 3

theorem prev_next : ∀ t t' : T, prev t' = some t ↔ next t = some t' := by decide +kernel

/-- What a transfer passes on is there: an arrival before `r`, or one of the first `z` own stores. -/
def ready (z r : ℕ) (t : T) : Bool := match prev t with | none => rank t ≤ z | some p => recvIx p < r

/-! ## The state -/

variable (X : Dev nD → Vec F S1024x256 .bf16) (W : Dev nD → Vec F S4x256x512 .bf16) (IX : Dev nD → Vec F S1024x1 .i32)
variable (K : Dev nD × CI → ℕ)

def records : sProp 𝕄 :=
  iprop((bigSep Finset.univ fun ck : Dev nD × CI => cellInv ER (rd W IX) (K ck) (kcell ck))
    ∗ bigSep Finset.univ fun ck : Dev nD × CI => reached ER (kcell ck) 0)
instance records_persistent : BI.Persistent (records (F := F) W IX K) := by unfold records; infer_instance

def pers : sProp 𝕄 := iprop(records W IX K ∗ levAts L lv)
instance pers_persistent : BI.Persistent (pers (F := F) W IX K) := by unfold pers; infer_instance

theorem at_one {I : Type} [Fintype I] (Φ : I → sProp 𝕄) (i : I) : bigSep Finset.univ Φ ⊢ (Φ i : sProp 𝕄) := by
  classical exact bigSep_elim (Finset.mem_univ i)
theorem inv_of (ck : Dev nD × CI) : pers W IX K ⊢ (cellInv ER (rd W IX) (K ck) (kcell ck) : sProp 𝕄) := by
  unfold pers records
  iintro ⟨⟨H, -⟩, -⟩
  iapply (at_one (fun ck : Dev nD × CI => (cellInv ER (rd W IX) (K ck) (kcell ck) : sProp 𝕄)) ck) $$ H
theorem reached_of (ck : Dev nD × CI) : pers W IX K ⊢ (reached ER (kcell ck) 0 : sProp 𝕄) := by
  unfold pers records
  iintro ⟨⟨-, H⟩, -⟩
  iapply (at_one (fun ck : Dev nD × CI => (reached ER (kcell ck) 0 : sProp 𝕄)) ck) $$ H
theorem lev_of : pers W IX K ⊢ (levAts L lv : sProp 𝕄) := by
  unfold pers
  iintro ⟨-, H⟩; iexact H

variable (c : Dev nD)

/-- A transfer not started: the right to make it and the place it writes. -/
def famU (s : ℕ) (t : T) : sProp 𝕄 :=
  if sendIx t < s then iprop(emp)
  else iprop(dutyTok ER (sendCell c t) 0 0 ∗ dutyTok ER (recvCell (peer c t) t) 0 0 ∗ dstAny (peer c t) t)
/-- What an arrival leaves for the body's own reads (and, if nothing passes it on, all of it). -/
def keep : T → sProp 𝕄
  | .inl (h, q) => iprop(ptA c (h + 1) q fullShare.right (GA W c) ∗ if h.val = 6 then ptA c (h + 1) q fullShare.left (GA W c) else iprop(emp))
  | .inr (.inl (h, q)) => iprop(ptB c (h + 1) q fullShare.right (GB W c) ∗ if h.val = 6 then ptB c (h + 1) q fullShare.left (GB W c) else iprop(emp))
  | .inr (.inr k) => ptM c (k + 1) fullShare (GM W IX c)
/-- An arrival, waited for or not. -/
def famV (r : ℕ) (t : T) : sProp 𝕄 :=
  if recvIx t < r then iprop(atPos ER (recvCell c t) 1 ∅ 0 ∗ keep W IX c t)
  else iprop(cred (tallyAt (recvCell c t) () (amt t)) ∗ atPos ER (recvCell c t) 0 ∅ 0)
/-- A departure, waited for, under way or still to come. -/
def famX (s w : ℕ) (t : T) : sProp 𝕄 :=
  if swIx t < w then iprop(atPos ER (sendCell c t) 1 ∅ 0 ∗ sendPay W IX c t)
  else if sendIx t < s then iprop(cred (tallyAt (sendCell c t) () (amt t)) ∗ atPos ER (sendCell c t) 0 ∅ 0)
  else iprop(atPos ER (sendCell c t) 0 ∅ 0)
/-- What a transfer not started will read. -/
def famY (z s r : ℕ) (t : T) : sProp 𝕄 :=
  if sendIx t < s then iprop(emp) else if ready z r t then sendPay W IX c t else iprop(emp)

/-- Slot `s` of a weight buffer, whole. -/
def setS (s : ℕ) : Finset S8x4x256x256.Idx := Finset.univ.filter fun i => (i 0).val = s
theorem mem_setS {s : ℕ} {i : S8x4x256x256.Idx} : i ∈ setS s ↔ (i 0).val = s := by simp [setS]

/-- Everything a run is about besides its device: the operands, the names of the cells' invariants and what the scratch
    buffers hold at the start. -/
structure Env (F : FTy → Type) where
  X : Dev nD → Vec F S1024x256 .bf16
  W : Dev nD → Vec F S4x256x512 .bf16
  IX : Dev nD → Vec F S1024x1 .i32
  K : Dev nD × CI → ℕ
  fA : S8x4x256x256.Idx → Elt F .i8
  fB : S8x4x256x256.Idx → Elt F .i8
  fM : S8x5x512.Idx → Elt F .f32

variable (e : Env F)

/-- The own slots: before the store what was there, after it the share kept for the body's reads. -/
def ownA (z : ℕ) : sProp 𝕄 :=
  if 1 ≤ z then (((c : Thread nD τ).loc cc0_scratch0) ↦[setS 0]{fullShare.right} GA e.W c) else (((c : Thread nD τ).loc cc0_scratch0) ↦[setS 0]{fullShare} e.fA)
def ownB (z : ℕ) : sProp 𝕄 :=
  if 2 ≤ z then (((c : Thread nD τ).loc cc0_scratch1) ↦[setS 0]{fullShare.right} GB e.W c) else (((c : Thread nD τ).loc cc0_scratch1) ↦[setS 0]{fullShare} e.fB)
def ownM (z : ℕ) : sProp 𝕄 :=
  if 3 ≤ z then ptM c 0 (restS 7) (GM e.W e.IX c) else ptM c 0 fullShare e.fM
def own (z : ℕ) : sProp 𝕄 := iprop(ownA c e z ∗ ownB c e z ∗ ownM c e z)

/-- The operands in their staging buffers. -/
def ins : sProp 𝕄 :=
  iprop((((c : Thread nD τ).loc cc0_stg0_0) ↦{fullShare} e.X c) ∗ (((c : Thread nD τ).loc cc0_stg1_0) ↦{fullShare} e.IX c) ∗ (((c : Thread nD τ).loc cc0_stg2_0) ↦{fullShare} e.W c))

/-- The result buffer, by its two halves. -/
def mkOut (a b : FVec F S1024x256 .f32) : S1024x512.Idx → Elt F .f32 :=
  fun i => if h : (i 1).val < 256 then a (ix2 (i 0) ⟨(i 1).val, h⟩) else b (ix2 (i 0) ⟨(i 1).val - 256, by have : (i 1).val < 512 := (i 1).isLt; omega⟩)
def outP (f : S1024x512.Idx → Elt F .f32) : sProp 𝕄 := ((c : Thread nD τ).loc cc0_stg3_0) ↦{fullShare} f

/-- While the barrier is being signalled, `n` signals sent. -/
def Pre (n : ℕ) (f : S1024x512.Idx → Elt F .f32) : sProp 𝕄 :=
  iprop(pers e.W e.IX e.K
    ∗ (bigSep Finset.univ fun d : Fin 7 => if d.val < n then iprop(emp) else iprop(dutyTok ER (barCell (dsh c (d.val + 1))) 0 d ∗ barPay (dsh c (d.val + 1)) d))
    ∗ (cred (tallyAt (barCell c) () 7) ∗ atPos ER (barCell c) 0 ∅ 0)
    ∗ (bigSep Finset.univ fun t : T => iprop(dutyTok ER (sendCell c t) 0 0 ∗ dutyTok ER (recvCell (peer c t) t) 0 0))
    ∗ bigSep Finset.univ (famV e.W e.IX c 0) ∗ bigSep Finset.univ (famX e.W e.IX c 0 0)
    ∗ own c e 0 ∗ ins c e ∗ outP c f ∗ ∃ Ws, owes (c : Thread nD τ) (Os c 0 + Ob c n) Ws)

/-- From the barrier on. -/
def Inv (z s r w : ℕ) (f : S1024x512.Idx → Elt F .f32) : sProp 𝕄 :=
  iprop(pers e.W e.IX e.K ∗ bigSep Finset.univ (famU c s) ∗ bigSep Finset.univ (famV e.W e.IX c r) ∗ bigSep Finset.univ (famX e.W e.IX c s w)
    ∗ bigSep Finset.univ (famY e.W e.IX c z s r) ∗ own c e z ∗ atPos ER (barCell c) 1 ∅ 0
    ∗ ins c e ∗ outP c f ∗ ∃ Ws, owes (c : Thread nD τ) (Os c s) Ws)

abbrev 𝒱₀ : Variants := Variants.none

abbrev wpc {α : Type} (p : Prog (TpuEff nD τ sig (Elt F) Λ₀ .tc) α) (Q : α → sProp 𝕄) : sProp 𝕄 :=
  wp frame (wpE (defs₀ (F := F)) 𝒱₀ (c : Thread nD τ) none) Set.univ p Q

end Cert.Moe

end
-- ==== Proof.Steps.lean ====
/-
# One step of the body at a time

Each lemma runs one memory operation of the body at a symbolic device: the state before it entails the program if the
state after it entails the rest.
-/
module

public import proofs.«01_k».proof.Proof.State
public import Idealize.ShloMosaic.Lib.Pipeline.ValueKit.Geometry

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where chunks lie and what lands in them -/

theorem chkA_set (s q : ℕ) (inb) : (chk aM s q inb).view.set = setW s q := by
  exact (View.set_reshape _ _).trans <| (View.set_slice_whole cc0_scratch0 _).trans (rectW_set s q inb)
theorem chkB_set (s q : ℕ) (inb) : (chk bM s q inb).view.set = setW s q := by
  exact (View.set_reshape _ _).trans <| (View.set_slice_whole cc0_scratch1 _).trans (rectW_set s q inb)
theorem sltM_set (k : ℕ) (inb) : (slt mM k inb).view.set = setM k := by
  exact (View.set_reshape _ _).trans <| (View.set_slice_whole cc0_scratch2 _).trans (rectM_set k inb)

section Land
variable (W : Dev nD → Vec F S4x256x512 .bf16) (IX : Dev nD → Vec F S1024x1 .i32)

theorem GA_congr {c c' : Dev nD} {i j : S8x4x256x256.Idx} (h0 : dsh c (8 - (i 0).val) = dsh c' (8 - (j 0).val))
    (h1 : (i 1).val = (j 1).val) (h2 : (i 2).val = (j 2).val) (h3 : (i 3).val = (j 3).val) : GA W c i = GA W c' j := by
  unfold GA; rw [h0, show i 1 = j 1 from Fin.ext h1, show i 2 = j 2 from Fin.ext h2, show i 3 = j 3 from Fin.ext h3]
theorem GB_congr {c c' : Dev nD} {i j : S8x4x256x256.Idx} (h0 : dsh c (i 0).val = dsh c' (j 0).val)
    (h1 : (i 1).val = (j 1).val) (h2 : (i 2).val = (j 2).val) (h3 : (i 3).val = (j 3).val) : GB W c i = GB W c' j := by
  unfold GB; rw [h0, show i 1 = j 1 from Fin.ext h1, show i 2 = j 2 from Fin.ext h2, show i 3 = j 3 from Fin.ext h3]
theorem GM_congr {c c' : Dev nD} {i j : S8x5x512.Idx} (h0 : dsh c (8 - (i 0).val) = dsh c' (8 - (j 0).val))
    (h1 : (i 1).val = (j 1).val) (h2 : (i 2).val = (j 2).val) : GM W IX c i = GM W IX c' j := by
  unfold GM; rw [h0, show i 1 = j 1 from Fin.ext h1, show i 2 = j 2 from Fin.ext h2]

/-- Where a chunk's element lies: its own coordinates behind the chunk's. -/
theorem chkA_emb (s q : ℕ) (inb) (y : S1x256x256.Idx) (a : Fin 4) :
    ((chk aM s q inb).view.emb y a).val = (![s, q, 0, 0] : Fin 4 → ℕ) a
      + ((Shape.reshapeEquiv squeezes_S1x1x256x256_S1x256x256.numel_eq y : S1x1x256x256.Idx) a).val :=
  ValueKit.rect_emb_unit_val (s := S8x4x256x256) (![s, q, 0, 0]) S1x1x256x256.size inb (Shape.reshapeEquiv squeezes_S1x1x256x256_S1x256x256.numel_eq y : S1x1x256x256.Idx) a
theorem chkB_emb (s q : ℕ) (inb) (y : S1x256x256.Idx) (a : Fin 4) :
    ((chk bM s q inb).view.emb y a).val = (![s, q, 0, 0] : Fin 4 → ℕ) a
      + ((Shape.reshapeEquiv squeezes_S1x1x256x256_S1x256x256.numel_eq y : S1x1x256x256.Idx) a).val :=
  ValueKit.rect_emb_unit_val (s := S8x4x256x256) (![s, q, 0, 0]) S1x1x256x256.size inb (Shape.reshapeEquiv squeezes_S1x1x256x256_S1x256x256.numel_eq y : S1x1x256x256.Idx) a
theorem sltM_emb (k : ℕ) (inb) (y : S5x512.Idx) (a : Fin 3) :
    ((slt mM k inb).view.emb y a).val = (![k, 0, 0] : Fin 3 → ℕ) a
      + ((Shape.reshapeEquiv squeezes_S1x5x512_S5x512.numel_eq y : S1x5x512.Idx) a).val :=
  ValueKit.rect_emb_unit_val (s := S8x5x512) (![k, 0, 0]) S1x5x512.size inb (Shape.reshapeEquiv squeezes_S1x5x512_S5x512.numel_eq y : S1x5x512.Idx) a

theorem landA (c : Dev nD) (h q : ℕ) (hh : h < 7) (inb₁ inb₂) (fd : S8x4x256x256.Idx → Elt F .i8) (i : (chk aM (h + 1) q inb₂).view.ty.Idx) (hi : i ∈ (chk aM (h + 1) q inb₂).view.set) :
    (chk aM (h + 1) q inb₂).view.write (Elt F) fd ((chk aM h q inb₁).view.read (Elt F) (GA W c)) Finset.univ i = GA W (dsh c 1) i := by
  obtain ⟨y, -, rfl⟩ := Finset.mem_map.mp hi
  rw [View.write_emb_of_mem _ _ (Finset.mem_univ y)]
  show GA W c ((chk aM h q inb₁).view.emb y) = _
  have hz : ((Shape.reshapeEquiv squeezes_S1x1x256x256_S1x256x256.numel_eq y : S1x1x256x256.Idx) 0).val < 1 := Fin.isLt _
  refine GA_congr W ?_ ?_ ?_ ?_
  · rw [chkA_emb, chkA_emb, dsh_dsh]
    show dsh c (8 - (h + _)) = dsh c (1 + (8 - (h + 1 + _)))
    congr 1; omega
  all_goals rw [chkA_emb, chkA_emb]; rfl
theorem landB (c : Dev nD) (h q : ℕ) (hh : h < 7) (inb₁ inb₂) (fd : S8x4x256x256.Idx → Elt F .i8) (i : (chk bM (h + 1) q inb₂).view.ty.Idx) (hi : i ∈ (chk bM (h + 1) q inb₂).view.set) :
    (chk bM (h + 1) q inb₂).view.write (Elt F) fd ((chk bM h q inb₁).view.read (Elt F) (GB W c)) Finset.univ i = GB W (dsh c 7) i := by
  obtain ⟨y, -, rfl⟩ := Finset.mem_map.mp hi
  rw [View.write_emb_of_mem _ _ (Finset.mem_univ y)]
  show GB W c ((chk bM h q inb₁).view.emb y) = _
  have hz : ((Shape.reshapeEquiv squeezes_S1x1x256x256_S1x256x256.numel_eq y : S1x1x256x256.Idx) 0).val < 1 := Fin.isLt _
  refine GB_congr W ?_ ?_ ?_ ?_
  · rw [chkB_emb, chkB_emb, dsh_dsh]
    show dsh c (h + _) = dsh c (7 + (h + 1 + _))
    exact dsh_mod c (by omega)
  all_goals rw [chkB_emb, chkB_emb]; rfl
theorem landM (c : Dev nD) (k : ℕ) (hk : k < 7) (inb₁ inb₂) (fd : S8x5x512.Idx → Elt F .f32) (i : (slt mM (k + 1) inb₂).view.ty.Idx) (hi : i ∈ (slt mM (k + 1) inb₂).view.set) :
    (slt mM (k + 1) inb₂).view.write (Elt F) fd ((slt mM 0 inb₁).view.read (Elt F) (GM W IX c)) Finset.univ i = GM W IX (dsh c (k + 1)) i := by
  obtain ⟨y, -, rfl⟩ := Finset.mem_map.mp hi
  rw [View.write_emb_of_mem _ _ (Finset.mem_univ y)]
  show GM W IX c ((slt mM 0 inb₁).view.emb y) = _
  have hz : ((Shape.reshapeEquiv squeezes_S1x5x512_S5x512.numel_eq y : S1x5x512.Idx) 0).val < 1 := Fin.isLt _
  refine GM_congr W IX ?_ ?_ ?_
  · rw [sltM_emb, sltM_emb, dsh_dsh]
    show dsh c (8 - (0 + _)) = dsh c (k + 1 + (8 - (k + 1 + _)))
    exact dsh_mod c (by omega)
  all_goals rw [sltM_emb, sltM_emb]; rfl
end Land

/-! ## Composition -/

variable (e : Env F) (c : Dev nD) {α β : Type}

theorem seq {S S' : sProp 𝕄} {p : Prog (TpuEff nD τ sig (Elt F) Λ₀ .tc) α} {K : α → Prog (TpuEff nD τ sig (Elt F) Λ₀ .tc) β} {Q : β → sProp 𝕄} {v : α}
    (h : ∀ Q' : α → sProp 𝕄, (S' ⊢ Q' v) → S ⊢ wpc c p Q') (h' : S' ⊢ wpc c (K v) Q) : S ⊢ wpc c (p >>= K) Q := by
  refine (h (fun a => wpc c (K a) Q) h').trans (Entails.of_eq ?_)
  exact (wp_bind ..).symm
theorem step_pure {S : sProp 𝕄} {v : α} {Q : α → sProp 𝕄} (h : S ⊢ Q v) : S ⊢ wpc c (pure v) Q := by
  unfold wpc; rw [Prog.pure_eq_ret, wp_ret]
  iintro H; imodintro; iapply h; iexact H
theorem step_device {S : sProp 𝕄} {k : Dev nD → Prog (TpuEff nD τ sig (Elt F) Λ₀ .tc) α} {Q : α → sProp 𝕄} (h : S ⊢ wpc c (k c) Q) :
    S ⊢ wpc c (Prog.lift .deviceId >>= k) Q := by
  refine h.trans (Entails.of_eq ?_)
  exact (wp_deviceId ..).symm

/-! ## Transfers and waits -/

theorem mayWait_send (s : ℕ) (t : T) : (levAts L lv : sProp 𝕄) ⊢ MayWait (c : Thread nD τ) (.dma (sendD t)) () (Os c s) :=
  mayWait_at c _ 0 (lv_dma c _ (fun t' => sendD_ne_recvD t t') ()) _ fun g u hg => by
    obtain ⟨t', _, rfl⟩ := Os_pos hg
    exact ⟨rfl, by rw [lv_recv]; have := lvT_pos t'; omega⟩
theorem mayWait_recv (s : ℕ) (t : T) (h : ∀ t', s ≤ sendIx t' → lvT t < lvT t') :
    (levAts L lv : sProp 𝕄) ⊢ MayWait (c : Thread nD τ) (.dma (recvD t)) () (Os c s) :=
  mayWait_at c _ (lvT t) (lv_recv c t ()) _ fun g u hg => by
    obtain ⟨t', ht', rfl⟩ := Os_pos hg
    exact ⟨rfl, by rw [lv_recv]; exact h t' ht'⟩
theorem mayWait_bar : (levAts L lv : sProp 𝕄) ⊢ MayWait (c : Thread nD τ) (.reg barS) () (Os c 0) :=
  mayWait_at c _ 1 (lv_bar c ()) _ fun g u hg => by
    obtain ⟨t', ht', rfl⟩ := Os_pos hg
    exact ⟨rfl, by rw [lv_recv]; exact lvT_pos t'⟩

section Fams
variable (W : Dev nD → Vec F S4x256x512 .bf16) (IX : Dev nD → Vec F S1024x1 .i32) (t : T)
theorem famU_at : famU (F := F) c (sendIx t) t = iprop(dutyTok ER (sendCell c t) 0 0 ∗ dutyTok ER (recvCell (peer c t) t) 0 0 ∗ dstAny (peer c t) t) :=
  if_neg (Nat.lt_irrefl _)
theorem famU_done : famU (F := F) c (sendIx t + 1) t = iprop(emp) := if_pos (Nat.lt_succ_self _)
theorem famY_at {z r : ℕ} (h : ready z r t = true) : famY W IX c z (sendIx t) r t = sendPay W IX c t := by
  unfold famY; rw [if_neg (Nat.lt_irrefl _), if_pos h]
theorem famY_done {z r : ℕ} : famY W IX c z (sendIx t + 1) r t = iprop(emp) := if_pos (Nat.lt_succ_self _)
theorem famX_at {w : ℕ} (h : w ≤ swIx t) : famX W IX c (sendIx t) w t = atPos ER (sendCell c t) 0 ∅ 0 := by
  unfold famX; rw [if_neg (by omega), if_neg (Nat.lt_irrefl _)]
theorem famX_sent {s w : ℕ} (h : w ≤ swIx t) (hs : sendIx t < s) :
    famX W IX c s w t = iprop(cred (tallyAt (sendCell c t) () (amt t)) ∗ atPos ER (sendCell c t) 0 ∅ 0) := by
  unfold famX; rw [if_neg (by omega), if_pos hs]
theorem famX_done {s : ℕ} : famX W IX c s (swIx t + 1) t = iprop(atPos ER (sendCell c t) 1 ∅ 0 ∗ sendPay W IX c t) := if_pos (Nat.lt_succ_self _)
theorem famV_at : famV W IX c (recvIx t) t = iprop(cred (tallyAt (recvCell c t) () (amt t)) ∗ atPos ER (recvCell c t) 0 ∅ 0) := if_neg (Nat.lt_irrefl _)
theorem famV_done {r : ℕ} (h : recvIx t < r) : famV W IX c r t = iprop(atPos ER (recvCell c t) 1 ∅ 0 ∗ keep W IX c t) := if_pos h
end Fams

/-- Starting transfer `t`: its tokens, its source share and its place on the target go in, the right to wait for its
    departure comes back. -/
theorem step_send {z s r w : ℕ} {f : S1024x512.Idx → Elt F .f32} (t : T) (hs : sendIx t = s) (hrdy : ready z r t = true) (hw : w ≤ swIx t)
    {sh : Shape} {el : EltTy} (src dst : Memref sig .tc .vmem sh el) (n : Dev nD) (hn : n = peer c t) (sS sR : DmaSem sig) (hS : sS = sendD t) (hR : sR = recvD t)
    (hN : dst.view.dmaCredit = amt t)
    {π : PosShare TreeShare} {fs : Buf (Elt F) (src.view.loc (c : Thread nD τ))} (hsrc : sendPay e.W e.IX c t = (src.view.loc (c : Thread nD τ) ↦[src.view.set]{π} fs))
    (hdst : (dstAny (peer c t) t : sProp 𝕄) ⊢ iprop(∃ fd, dst.view.loc (peer c t : Thread nD τ) ↦[dst.view.set]{fullShare} fd))
    (hland : ∀ fd : Buf (Elt F) (dst.view.loc (peer c t : Thread nD τ)),
      (dst.view.loc (peer c t : Thread nD τ) ↦[dst.view.set]{fullShare} (dst.view.write (Elt F) fd (src.view.read (Elt F) fs) Finset.univ)) ⊢ recvPay e.W e.IX (peer c t) t)
    {hsc : (dst : Memref sig (Dev.tc n : Thread nD τ).2.kind .vmem sh el).view.ref.isScScratch = false} {hse : src.view.WordExact} {hde : dst.view.WordExact}
    {hsem : DmaTarget.Typed .vmem (.dma sR) (.remote (Dev.tc n : Thread nD τ) dst (.dma sS) hsc)}
    {k : PUnit → Prog (TpuEff nD τ sig (Elt F) Λ₀ .tc) α} {Q : α → sProp 𝕄} (H : Inv c e z (s + 1) r w f ⊢ wpc c (k ⟨⟩) Q) :
    Inv c e z s r w f ⊢ wpc c (Prog.lift (.enqueueDma src (.remote (Dev.tc n : Thread nD τ) dst (.dma sS) hsc) (.dma sR) hse hde hsem) >>= k) Q := by
  subst hn hS hR hs
  show _ ⊢ wpc c (.op (.enqueueDma src (.remote (Dev.tc (peer c t) : Thread nD τ) dst (.dma (sendD t)) hsc) (.dma (recvD t)) hse hde hsem) k) Q
  unfold Inv
  iintro ⟨#Hp, HU, HV, HX, HY, Hown, Hbar, Hins, Hout, ⟨%Ws, HO⟩⟩
  ihave HU' := (fam_swap (Φ := famU (F := F) c (sendIx t)) (Ψ := famU c (sendIx t + 1)) t (fun i hi => by
    have hne : sendIx i ≠ sendIx t := fun h => hi (sendIx_inj i t h)
    unfold famU; simp only [show (sendIx i < sendIx t) = (sendIx i < sendIx t + 1) from propext (by omega)])) $$ HU
  ihave HX' := (fam_swap (Φ := famX e.W e.IX c (sendIx t) w) (Ψ := famX e.W e.IX c (sendIx t + 1) w) t (fun i hi => by
    have hne : sendIx i ≠ sendIx t := fun h => hi (sendIx_inj i t h)
    unfold famX; simp only [show (sendIx i < sendIx t) = (sendIx i < sendIx t + 1) from propext (by omega)])) $$ HX
  ihave HY' := (fam_swap (Φ := famY e.W e.IX c z (sendIx t) r) (Ψ := famY e.W e.IX c z (sendIx t + 1) r) t (fun i hi => by
    have hne : sendIx i ≠ sendIx t := fun h => hi (sendIx_inj i t h)
    unfold famY; simp only [show (sendIx i < sendIx t) = (sendIx i < sendIx t + 1) from propext (by omega)])) $$ HY
  rw [famU_at, famU_done, famX_at c _ _ _ hw, famX_sent c _ _ _ hw (Nat.lt_succ_self _), famY_at c _ _ _ hrdy, famY_done]
  icases HU' with ⟨⟨HtS, HtR, Hd⟩, HU'⟩
  icases HX' with ⟨HatS, HX'⟩
  icases HY' with ⟨Hsrc, HY'⟩
  ihave Hd' := hdst $$ Hd
  icases Hd' with ⟨%fd, Hd⟩
  ihave Hsrc' := (Entails.of_eq hsrc) $$ Hsrc
  ihave #HIs := (inv_of e.W e.IX e.K (c, .inr (.inl t))) $$ Hp
  ihave #HIr := (inv_of e.W e.IX e.K (peer c t, .inr (.inr t))) $$ Hp
  ihave #HRs := (reached_of e.W e.IX e.K (c, .inr (.inl t))) $$ Hp
  ihave #HRr := (reached_of e.W e.IX e.K (peer c t, .inr (.inr t))) $$ Hp
  iapply (Rounds.wp_send_pointsTo 𝒱₀ ER (rd e.W e.IX) (c : Thread nD τ) none (κ₁ := e.K (c, .inr (.inl t))) (κ₂ := e.K (peer c t, .inr (.inr t)))
    (c' := (peer c t : Thread nD τ)) (r₁ := 0) (r₂ := 0) (d₁ := 0) (d₂ := 0) (fd := fd) (fs := fs) (q := π) (sS := .dma (sendD t)) (sem := .dma (recvD t)) (Es := Set.univ) (W := Ws)
    (by rw [duties_send]; exact Finset.mem_singleton_self _) (by rw [duties_recv]; exact Finset.mem_singleton_self _)
    () () (amt t) hN (amount_send e.W e.IX c t 0) (amount_recv e.W e.IX (peer c t) t 0) (Os c (sendIx t + 1)) (Os_peel c t)
    (Entails.of_eq (by rw [payload_send, hsrc]))
    (by rw [payload_recv]; exact hland fd)) $$ [Hsrc' Hd HO HtS HtR]
  · isplitr; · iexact HIs
    isplitr; · iexact HIr
    isplitl [Hsrc']; · iexact Hsrc'
    isplitl [Hd]; · iexact Hd
    isplitl [HO]; · iexact HO
    isplitl [HtS]; · iexact HtS
    isplitr; · iexact HRs
    isplitl [HtR]; · iexact HtR
    iexact HRr
  iintro ⟨HcS, HO⟩
  iapply H
  unfold Inv
  isplitr; · iexact Hp
  isplitl [HU']; · iapply HU'; iempintro
  isplitl [HV]; · iexact HV
  isplitl [HX' HatS HcS]
  · iapply HX'
    isplitl [HcS]; · iexact HcS
    iexact HatS
  isplitl [HY']; · iapply HY'; iempintro
  isplitl [Hown]; · iexact Hown
  isplitl [Hbar]; · iexact Hbar
  isplitl [Hins]; · iexact Hins
  isplitl [Hout]; · iexact Hout
  iexists Ws; iexact HO

/-- An arrival splits into what the body reads and what the next transfer passes on. -/
theorem recvPay_last (W : Dev nD → Vec F S4x256x512 .bf16) (IX : Dev nD → Vec F S1024x1 .i32) (t : T) (h : next t = none) :
    recvPay W IX c t ⊢ keep W IX c t := by
  rcases t with ⟨h', q⟩ | ⟨h', q⟩ | k
  · have h6 : h'.val = 6 := by
      by_contra hn; dsimp only [next] at h; rw [dif_pos (by omega)] at h; cases h
    dsimp only [recvPay, keep]
    rw [if_pos h6]
    exact (pointsTo_share (PosShare.mem_left_op_right fullShare)).1.trans sep_comm.1
  · have h6 : h'.val = 6 := by
      by_contra hn; dsimp only [next] at h; rw [dif_pos (by omega)] at h; cases h
    dsimp only [recvPay, keep]
    rw [if_pos h6]
    exact (pointsTo_share (PosShare.mem_left_op_right fullShare)).1.trans sep_comm.1
  · exact BI.Entails.refl _
theorem recvPay_next (W : Dev nD → Vec F S4x256x512 .bf16) (IX : Dev nD → Vec F S1024x1 .i32) (t t' : T) (h : next t = some t') :
    recvPay W IX c t ⊢ iprop(keep W IX c t ∗ sendPay W IX c t') := by
  rcases t with ⟨h', q⟩ | ⟨h', q⟩ | k
  · by_cases h6 : h'.val < 6
    · dsimp only [next] at h; rw [dif_pos h6] at h; injection h with h; subst h
      dsimp only [recvPay, keep, sendPay]
      rw [if_neg (by omega)]
      refine (pointsTo_share (PosShare.mem_left_op_right fullShare)).1.trans ?_
      iintro ⟨H1, H2⟩
      isplitl [H2]
      · isplitl [H2]; · iexact H2
        iempintro
      iexact H1
    · dsimp only [next] at h; rw [dif_neg h6] at h; cases h
  · by_cases h6 : h'.val < 6
    · dsimp only [next] at h; rw [dif_pos h6] at h; injection h with h; subst h
      dsimp only [recvPay, keep, sendPay]
      rw [if_neg (by omega)]
      refine (pointsTo_share (PosShare.mem_left_op_right fullShare)).1.trans ?_
      iintro ⟨H1, H2⟩
      isplitl [H2]
      · isplitl [H2]; · iexact H2
        iempintro
      iexact H1
    · dsimp only [next] at h; rw [dif_neg h6] at h; cases h
  · cases h

theorem ready_succ (z r : ℕ) (t i : T) (hr : recvIx t = r) (hi : prev i ≠ some t) : ready z r i = ready z (r + 1) i := by
  unfold ready
  cases hp : prev i with
  | none => rfl
  | some p =>
    have hne : recvIx p ≠ r := fun h => hi (by rw [hp, recvIx_inj p t (h.trans hr.symm)])
    simp only [decide_eq_decide]; omega

/-- What passing on adds to the sources: nothing, or the next transfer's. -/
theorem famY_recv (W : Dev nD → Vec F S4x256x512 .bf16) (IX : Dev nD → Vec F S1024x1 .i32) (t : T) (z s : ℕ) (hn : ∀ t', next t = some t' → s ≤ sendIx t') :
    iprop(recvPay W IX c t ∗ bigSep Finset.univ (famY W IX c z s (recvIx t))) ⊢ iprop(keep W IX c t ∗ bigSep Finset.univ (famY W IX c z s (recvIx t + 1))) := by
  cases h : next t with
  | none =>
    rw [show famY W IX c z s (recvIx t) = famY W IX c z s (recvIx t + 1) from funext fun i => by
      unfold famY; rw [ready_succ z _ t i rfl (fun h' => by rw [(prev_next t i).mp h'] at h; cases h)]]
    exact sep_mono_left (recvPay_last c W IX t h)
  | some t' =>
    iintro ⟨Hp, HY⟩
    ihave HY' := (fam_swap (Φ := famY W IX c z s (recvIx t)) (Ψ := famY W IX c z s (recvIx t + 1)) t' (fun i hi => by
      unfold famY; rw [ready_succ z _ t i rfl (fun h' => by rw [(prev_next t i).mp h'] at h; injection h with h; exact hi h)])) $$ HY
    have hp := (prev_next t t').mpr h
    have hs := hn t' h
    rw [show famY W IX c z s (recvIx t) t' = iprop(emp) from by
        unfold famY ready; rw [hp, if_neg (by omega), if_neg (by simp)],
      show famY W IX c z s (recvIx t + 1) t' = sendPay W IX c t' from by
        unfold famY ready; rw [hp, if_neg (by omega), if_pos (by simp)]]
    icases HY' with ⟨-, HY'⟩
    ihave Hp' := (recvPay_next c W IX t t' h) $$ Hp
    icases Hp' with ⟨Hk, Hs⟩
    isplitl [Hk]; · iexact Hk
    iapply HY'; iexact Hs

/-- Waiting for the arrival of transfer `t`. -/
theorem step_recv {z s r w : ℕ} {f : S1024x512.Idx → Elt F .f32} (t : T) (hr : recvIx t = r) (hlv : ∀ t', s ≤ sendIx t' → lvT t < lvT t')
    (hn : ∀ t', next t = some t' → s ≤ sendIx t') (sR : DmaSem sig) (hR : sR = recvD t)
    {sh sh' : Shape} {el el' : EltTy} {src : Memref sig .tc .vmem sh' el'} {dst : Memref sig .tc .vmem sh el} (hN : dst.view.dmaCredit = amt t)
    {hse : src.view.WordExact} {hde : dst.view.WordExact}
    {k : PUnit → Prog (TpuEff nD τ sig (Elt F) Λ₀ .tc) α} {Q : α → sProp 𝕄} (H : Inv c e z s (r + 1) w f ⊢ wpc c (k ⟨⟩) Q) :
    Inv c e z s r w f ⊢ wpc c (Prog.lift (.waitDma2 sR src dst hse hde) >>= k) Q := by
  subst hr hR
  show _ ⊢ wpc c (.op (.waitDma2 (recvD t) src dst hse hde) k) Q
  unfold Inv
  iintro ⟨#Hp, HU, HV, HX, HY, Hown, Hbar, Hins, Hout, ⟨%Ws, HO⟩⟩
  ihave HV' := (fam_swap (Φ := famV e.W e.IX c (recvIx t)) (Ψ := famV e.W e.IX c (recvIx t + 1)) t (fun i hi => by
    have hne : recvIx i ≠ recvIx t := fun h => hi (recvIx_inj i t h)
    unfold famV; simp only [show (recvIx i < recvIx t) = (recvIx i < recvIx t + 1) from propext (by omega)])) $$ HV
  rw [famV_at, famV_done c _ _ _ (Nat.lt_succ_self _)]
  icases HV' with ⟨⟨Hc, Hat⟩, HV'⟩
  ihave #HI := (inv_of e.W e.IX e.K (c, .inr (.inr t))) $$ Hp
  ihave #Hlev := (lev_of e.W e.IX e.K) $$ Hp
  ihave Hc' := (Entails.of_eq (show (cred (tallyAt (recvCell c t) () (amt t)) : sProp 𝕄) = cred (tallyAt (recvCell c t) () dst.view.dmaCredit) by rw [hN])) $$ Hc
  iapply (Rounds.wp_wait_rest_token 𝒱₀ ER (rd e.W e.IX) (c : Thread nD τ) none (κ := e.K (c, .inr (.inr t)))
      (wpE_waitDma2_eq 𝒱₀ (c : Thread nD τ) none Set.univ) (Set.mem_univ _) () (O := Os c s) (W := Ws) (R := 0) (m := 0) (T := ∅)
      (by rw [Nat.zero_add, expect_recv, hN])) $$ [Hc' HO Hat]
  · isplitr; · iexact HI
    isplitl [Hc']; · iexact Hc'
    isplitl [HO]; · iexact HO
    isplitr; · iapply (mayWait_recv c s t hlv); iexact Hlev
    iexact Hat
  iintro ⟨HO, Hat, -, Hpay⟩
  ihave Hpay' := (Entails.of_eq (rest_recv e.W e.IX c t)) $$ Hpay
  ihave HY' := (famY_recv c e.W e.IX t z s hn) $$ [Hpay' HY]
  · isplitl [Hpay'] <;> iassumption
  icases HY' with ⟨Hk, HY⟩
  iapply H
  unfold Inv
  isplitr; · iexact Hp
  isplitl [HU]; · iexact HU
  isplitl [HV' Hat Hk]
  · iapply HV'
    isplitl [Hat]; · iexact Hat
    iexact Hk
  isplitl [HX]; · iexact HX
  isplitl [HY]; · iexact HY
  isplitl [Hown]; · iexact Hown
  isplitl [Hbar]; · iexact Hbar
  isplitl [Hins]; · iexact Hins
  isplitl [Hout]; · iexact Hout
  iexists _; iexact HO

/-- Waiting for the departure of transfer `t`. -/
theorem step_sent {z s r w : ℕ} {f : S1024x512.Idx → Elt F .f32} (t : T) (hw : swIx t = w) (hs : sendIx t < s) (sS : DmaSem sig) (hS : sS = sendD t)
    {sh sh' : Shape} {el el' : EltTy} {src : Memref sig .tc .vmem sh' el'} {dst : Memref sig .tc .vmem sh el} (hN : dst.view.dmaCredit = amt t)
    {hse : src.view.WordExact} {hde : dst.view.WordExact}
    {k : PUnit → Prog (TpuEff nD τ sig (Elt F) Λ₀ .tc) α} {Q : α → sProp 𝕄} (H : Inv c e z s r (w + 1) f ⊢ wpc c (k ⟨⟩) Q) :
    Inv c e z s r w f ⊢ wpc c (Prog.lift (.waitDma2 sS src dst hse hde) >>= k) Q := by
  subst hw hS
  show _ ⊢ wpc c (.op (.waitDma2 (sendD t) src dst hse hde) k) Q
  unfold Inv
  iintro ⟨#Hp, HU, HV, HX, HY, Hown, Hbar, Hins, Hout, ⟨%Ws, HO⟩⟩
  ihave HX' := (fam_swap (Φ := famX e.W e.IX c s (swIx t)) (Ψ := famX e.W e.IX c s (swIx t + 1)) t (fun i hi => by
    have hne : swIx i ≠ swIx t := fun h => hi (swIx_inj i t h)
    unfold famX; simp only [show (swIx i < swIx t) = (swIx i < swIx t + 1) from propext (by omega)])) $$ HX
  rw [famX_sent c _ _ _ (le_refl _) hs, famX_done]
  icases HX' with ⟨⟨Hc, Hat⟩, HX'⟩
  ihave #HI := (inv_of e.W e.IX e.K (c, .inr (.inl t))) $$ Hp
  ihave #Hlev := (lev_of e.W e.IX e.K) $$ Hp
  ihave Hc' := (Entails.of_eq (show (cred (tallyAt (sendCell c t) () (amt t)) : sProp 𝕄) = cred (tallyAt (sendCell c t) () dst.view.dmaCredit) by rw [hN])) $$ Hc
  iapply (Rounds.wp_wait_rest_token 𝒱₀ ER (rd e.W e.IX) (c : Thread nD τ) none (κ := e.K (c, .inr (.inl t)))
      (wpE_waitDma2_eq 𝒱₀ (c : Thread nD τ) none Set.univ) (Set.mem_univ _) () (O := Os c s) (W := Ws) (R := 0) (m := 0) (T := ∅)
      (by rw [Nat.zero_add, expect_send, hN])) $$ [Hc' HO Hat]
  · isplitr; · iexact HI
    isplitl [Hc']; · iexact Hc'
    isplitl [HO]; · iexact HO
    isplitr; · iapply (mayWait_send c s t); iexact Hlev
    iexact Hat
  iintro ⟨HO, Hat, -, Hpay⟩
  ihave Hpay' := (Entails.of_eq (rest_send e.W e.IX c t)) $$ Hpay
  iapply H
  unfold Inv
  isplitr; · iexact Hp
  isplitl [HU]; · iexact HU
  isplitl [HV]; · iexact HV
  isplitl [HX' Hat Hpay']
  · iapply HX'
    isplitl [Hat]; · iexact Hat
    iexact Hpay'
  isplitl [HY]; · iexact HY
  isplitl [Hown]; · iexact Hown
  isplitl [Hbar]; · iexact Hbar
  isplitl [Hins]; · iexact Hins
  isplitl [Hout]; · iexact Hout
  iexists _; iexact HO

/-- Signalling the barrier of the device `d + 1` places on: the places there that it writes here go with the unit. -/
theorem step_signal {n : ℕ} {f : S1024x512.Idx → Elt F .f32} (d : Fin 7) (hd : d.val = n) (p : Dev nD) (hp : p = dsh c (d.val + 1))
    {k : PUnit → Prog (TpuEff nD τ sig (Elt F) Λ₀ .tc) α} {Q : α → sProp 𝕄} (H : Pre c e (n + 1) f ⊢ wpc c (k ⟨⟩) Q) :
    Pre c e n f ⊢ wpc c (semSignalWord p barS 1#32 >>= k) Q := by
  subst hd hp
  show _ ⊢ wpc c (.op (.semSignal (dsh c (d.val + 1) : Thread nD τ) barS 1) k) Q
  unfold Pre
  iintro ⟨#Hp, HD, HC, HT, HV, HX, Hown, Hins, Hout, ⟨%Ws, HO⟩⟩
  ihave HD' := (fam_swap (Φ := fun i : Fin 7 => (if i.val < d.val then iprop(emp) else iprop(dutyTok ER (barCell (dsh c (i.val + 1))) 0 i ∗ barPay (dsh c (i.val + 1)) i) : sProp 𝕄))
    (Ψ := fun i : Fin 7 => if i.val < d.val + 1 then iprop(emp) else iprop(dutyTok ER (barCell (dsh c (i.val + 1))) 0 i ∗ barPay (dsh c (i.val + 1)) i)) d (fun i hi => by
    have hne : i.val ≠ d.val := fun h => hi (Fin.ext h)
    simp only [show (i.val < d.val) = (i.val < d.val + 1) from propext (by omega)])) $$ HD
  rw [if_neg (Nat.lt_irrefl _), if_pos (Nat.lt_succ_self _)]
  icases HD' with ⟨⟨Ht, Hpay⟩, HD'⟩
  ihave #HI := (inv_of e.W e.IX e.K (dsh c (d.val + 1), .inl ())) $$ Hp
  ihave #HR := (reached_of e.W e.IX e.K (dsh c (d.val + 1), .inl ())) $$ Hp
  iapply (Rounds.wp_signal 𝒱₀ ER (rd e.W e.IX) (c : Thread nD τ) none (dst := (dsh c (d.val + 1) : Thread nD τ)) (κ := e.K (dsh c (d.val + 1), .inl ()))
      (d := d) (r := 0) (O₀ := Os c 0 + Ob c d.val) (W := Ws) (by rw [duties_bar]; exact Finset.mem_univ _) (amount_bar e.W e.IX (dsh c (d.val + 1)) d) () (Os c 0 + Ob c (d.val + 1))
      (by rw [Ob_peel, add_assoc])) $$ [HO Ht Hpay]
  · isplitr; · iexact HI
    isplitl [HO]; · iexact HO
    isplitl [Ht]; · iexact Ht
    isplitl [Hpay]; · rw [payload_bar]; iexact Hpay
    iexact HR
  iintro HO
  iapply H
  unfold Pre
  isplitr; · iexact Hp
  isplitl [HD']; · iapply HD'; iempintro
  isplitl [HC]; · iexact HC
  isplitl [HT]; · iexact HT
  isplitl [HV]; · iexact HV
  isplitl [HX]; · iexact HX
  isplitl [Hown]; · iexact Hown
  isplitl [Hins]; · iexact Hins
  isplitl [Hout]; · iexact Hout
  iexists Ws; iexact HO

theorem famY_zero (W : Dev nD → Vec F S4x256x512 .bf16) (IX : Dev nD → Vec F S1024x1 .i32) :
    iprop(emp) ⊢ (bigSep Finset.univ (famY W IX c 0 0 0) : sProp 𝕄) := by
  have : famY W IX c 0 0 0 = fun _ => (BI.emp : sProp 𝕄) := funext fun t => by
    unfold famY ready
    rw [if_neg (Nat.not_lt_zero _), if_neg]
    · rfl
    · rcases t with ⟨h, q⟩ | ⟨h, q⟩ | k
      · by_cases h0 : 0 < h.val <;> simp only [prev, rank, h0, if_true, if_false] <;> simp
      · by_cases h0 : 0 < h.val <;> simp only [prev, rank, h0, if_true, if_false] <;> simp
      · simp [prev, rank]
  rw [this]
  exact Entails.of_eq (bigSep_emp_const _).symm

/-- The barrier's wait: every place the device's transfers write is its own now. -/
theorem step_barrier {f : S1024x512.Idx → Elt F .f32}
    {k : PUnit → Prog (TpuEff nD τ sig (Elt F) Λ₀ .tc) α} {Q : α → sProp 𝕄} (H : Inv c e 0 0 0 0 f ⊢ wpc c (k ⟨⟩) Q) :
    Pre c e 7 f ⊢ wpc c (semWaitWord barS 7#32 >>= k) Q := by
  show _ ⊢ wpc c (.op (.semWait barS 7) k) Q
  unfold Pre
  iintro ⟨#Hp, -, ⟨Hc, Hat⟩, HT, HV, HX, Hown, Hins, Hout, ⟨%Ws, HO⟩⟩
  rw [Ob_end, add_zero]
  ihave #HI := (inv_of e.W e.IX e.K (c, .inl ())) $$ Hp
  ihave #Hlev := (lev_of e.W e.IX e.K) $$ Hp
  iapply (Rounds.wp_wait_rest_token 𝒱₀ ER (rd e.W e.IX) (c : Thread nD τ) none (κ := e.K (c, .inl ()))
      (wpE_semWait_eq 𝒱₀ (c : Thread nD τ) none Set.univ) (Set.mem_univ _) () (O := Os c 0) (W := Ws) (R := 0) (m := 0) (T := ∅)
      (by rw [Nat.zero_add, expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hpay' := (rest_bar e.W e.IX c) $$ Hpay
  ihave HU := (fam_fill (Φ := fun t : T => iprop(dutyTok ER (sendCell c t) 0 0 ∗ dutyTok ER (recvCell (peer c t) t) 0 0)) (Ψ := fun t : T => dstAny (F := F) (peer c t) t) (Ξ := famU c 0) (fun t : T => by
      unfold famU; rw [if_neg (Nat.not_lt_zero _)]
      iintro ⟨⟨H1, H2⟩, H3⟩
      isplitl [H1]; · iexact H1
      isplitl [H2] <;> iassumption)) $$ [HT Hpay']
  · isplitl [HT]; · iexact HT
    iexact Hpay'
  iapply H
  unfold Inv
  isplitr; · iexact Hp
  isplitl [HU]; · iexact HU
  isplitl [HV]; · iexact HV
  isplitl [HX]; · iexact HX
  isplitr
  · iapply (famY_zero c e.W e.IX); iempintro
  isplitl [Hown]; · iexact Hown
  isplitl [Hat]; · iexact Hat
  isplitl [Hins]; · iexact Hins
  isplitl [Hout]; · iexact Hout
  iexists _; iexact HO

end Cert.Moe

end
-- ==== Proof.Access.lean ====
/-
# The body's reads and writes of memory

What each load of the body finds, and what the state is after each store.
-/
module

public import proofs.«01_k».proof.Proof.Steps

@[expose] public section

noncomputable section

namespace Cert.Moe
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Access -/

/-- `P` can be taken out of `S` and put back. -/
def Acc (P S : sProp 𝕄) : Prop := S ⊢ iprop(P ∗ (P -∗ S))

theorem acc_self (P : sProp 𝕄) : Acc P P := by
  unfold Acc; iintro H
  isplitl [H]; · iexact H
  iintro H; iexact H
theorem acc_l {P A B : sProp 𝕄} (h : Acc P A) : Acc P iprop(A ∗ B) := by
  unfold Acc at *
  iintro ⟨HA, HB⟩
  ihave HA' := h $$ HA
  icases HA' with ⟨HP, Hw⟩
  isplitl [HP]; · iexact HP
  iintro HP
  isplitr [HB]
  · iapply Hw; iexact HP
  iexact HB
theorem acc_r {P A B : sProp 𝕄} (h : Acc P B) : Acc P iprop(A ∗ B) := by
  unfold Acc at *
  iintro ⟨HA, HB⟩
  ihave HB' := h $$ HB
  icases HB' with ⟨HP, Hw⟩
  isplitl [HP]; · iexact HP
  iintro HP
  isplitl [HA]; · iexact HA
  iapply Hw; iexact HP
theorem acc_trans {P A B : sProp 𝕄} (h : Acc P A) (h' : Acc A B) : Acc P B := by
  unfold Acc at *
  iintro HB
  ihave HB' := h' $$ HB
  icases HB' with ⟨HA, Hw⟩
  ihave HA' := h $$ HA
  icases HA' with ⟨HP, Hw'⟩
  isplitl [HP]; · iexact HP
  iintro HP
  iapply Hw; iapply Hw'; iexact HP
theorem acc_fam {I : Type} [Fintype I] [DecidableEq I] (Φ : I → sProp 𝕄) (i : I) : Acc (Φ i) (bigSep Finset.univ Φ) :=
  fam_swap i (fun _ _ => rfl)

variable (e : Env F) (c : Dev nD) {α β : Type}

/-- A load whose elements can be taken out of the state. -/
theorem step_load {S : sProp 𝕄} {sh : Shape} {el : EltTy} {m : Memref sig .tc .vmem sh el} {r : LoadRect sh} {hl : m.view.LoadsAt r}
    {I : Finset (Idx (m.view.loc (c : Thread nD τ)))} {π : PosShare TreeShare} {f : Buf (Elt F) (m.view.loc (c : Thread nD τ))}
    (hacc : Acc (m.view.loc (c : Thread nD τ) ↦[I]{π} f) S) (hI : m.view.setOn r.set ⊆ I) {v : r.shape.Idx → Elt F el} (hv : m.view.readAt (Elt F) r f = v)
    {k : (r.shape.Idx → Elt F el) → Prog (TpuEff nD τ sig (Elt F) Λ₀ .tc) α} {Q : α → sProp 𝕄} (H : S ⊢ wpc c (k v) Q) :
    S ⊢ wpc c (Prog.lift (.load m r hl) >>= k) Q := by
  subst hv
  rw [Prog.bind_lift]
  unfold Acc at hacc
  iintro HS
  ihave HS' := hacc $$ HS
  icases HS' with ⟨HP, Hw⟩
  iapply (wp_load 𝒱₀ (c : Thread nD τ) none Set.univ (m := m) hI) $$ HP
  iintro HP
  iapply H
  iapply Hw; iexact HP

/-- A store into what can be taken out of the state, putting back something else. -/
theorem step_store {S S' : sProp 𝕄} {sh : Shape} {el : EltTy} {m : Memref sig .tc .vmem sh el} {r : Rect sh} {v : r.shape.Idx → Elt F el}
    {hx : (m.access r).Stores Finset.univ} {hm}
    {I : Finset (Idx (m.view.loc (c : Thread nD τ)))} {f : Buf (Elt F) (m.view.loc (c : Thread nD τ))}
    (hI : (m.access r).setOn Finset.univ ⊆ I) {g : Buf (Elt F) (m.view.loc (c : Thread nD τ))} (hg : ∀ i ∈ I, (m.access r).write (Elt F) f v Finset.univ i = g i)
    (hacc : S ⊢ iprop((m.view.loc (c : Thread nD τ) ↦[I]{fullShare} f) ∗ ((m.view.loc (c : Thread nD τ) ↦[I]{fullShare} g) -∗ S')))
    {k : PUnit → Prog (TpuEff nD τ sig (Elt F) Λ₀ .tc) α} {Q : α → sProp 𝕄} (H : S' ⊢ wpc c (k ⟨⟩) Q) :
    S ⊢ wpc c (Prog.lift (.store m r v Finset.univ hx hm) >>= k) Q := by
  rw [Prog.bind_lift]
  iintro HS
  ihave HS' := hacc $$ HS
  icases HS' with ⟨HP, Hw⟩
  iapply (wp_store 𝒱₀ (c : Thread nD τ) none Set.univ (m := m) (r := r) (Mk := Finset.univ) hI) $$ HP
  iintro HP
  iapply H
  iapply Hw
  ihave HP' := (Entails.of_eq (pointsTo_congr (f := (m.access r).write (Elt F) f v Finset.univ) (g := g) (q := fullShare) hg)) $$ HP
  iexact HP'

/-! ## Where the pieces are in the state -/

variable {z s r w : ℕ} {f : S1024x512.Idx → Elt F .f32}

theorem acc_ins : Acc (ins c e) (Inv c e z s r w f) := by
  unfold Inv
  exact acc_r <| acc_r <| acc_r <| acc_r <| acc_r <| acc_r <| acc_r <| acc_l (acc_self _)
theorem acc_out : Acc (outP c f) (Inv c e z s r w f) := by
  unfold Inv
  exact acc_r <| acc_r <| acc_r <| acc_r <| acc_r <| acc_r <| acc_r <| acc_r <| acc_l (acc_self _)
theorem acc_own : Acc (own c e z) (Inv c e z s r w f) := by
  unfold Inv
  exact acc_r <| acc_r <| acc_r <| acc_r <| acc_r <| acc_l (acc_self _)
theorem acc_V (t : T) (h : recvIx t < r) : Acc (keep e.W e.IX c t) (Inv c e z s r w f) := by
  unfold Inv
  refine acc_r <| acc_r <| acc_l (acc_trans ?_ (acc_fam _ t))
  rw [famV_done c _ _ _ h]
  exact acc_r (acc_self _)

theorem acc_x : Acc ((xM.view.loc (c : Thread nD τ)) ↦[Finset.univ]{fullShare} e.X c) (Inv c e z s r w f) := acc_trans (acc_l (acc_self _)) (acc_ins e c)
theorem acc_i : Acc ((iM.view.loc (c : Thread nD τ)) ↦[Finset.univ]{fullShare} e.IX c) (Inv c e z s r w f) := acc_trans (acc_r <| acc_l (acc_self _)) (acc_ins e c)
theorem acc_w : Acc ((wM.view.loc (c : Thread nD τ)) ↦[Finset.univ]{fullShare} e.W c) (Inv c e z s r w f) := acc_trans (acc_r <| acc_r (acc_self _)) (acc_ins e c)
theorem acc_o : Acc ((oM.view.loc (c : Thread nD τ)) ↦[Finset.univ]{fullShare} f) (Inv c e z s r w f) := acc_out e c

theorem acc_A0 (hz : z < 1) : Acc ((aM.view.loc (c : Thread nD τ)) ↦[setS 0]{fullShare} e.fA) (Inv c e z s r w f) := by
  refine acc_trans (acc_l ?_) (acc_own e c)
  unfold ownA; rw [if_neg (by omega)]; exact acc_self _
theorem acc_B0 (hz : z < 2) : Acc ((bM.view.loc (c : Thread nD τ)) ↦[setS 0]{fullShare} e.fB) (Inv c e z s r w f) := by
  refine acc_trans (acc_r <| acc_l ?_) (acc_own e c)
  unfold ownB; rw [if_neg (by omega)]; exact acc_self _
theorem acc_M0 (hz : z < 3) : Acc ((mM.view.loc (c : Thread nD τ)) ↦[setM 0]{fullShare} e.fM) (Inv c e z s r w f) := by
  refine acc_trans (acc_r <| acc_r ?_) (acc_own e c)
  unfold ownM; rw [if_neg (by omega)]; exact acc_self _
theorem acc_A1 (hz : 1 ≤ z) : Acc ((aM.view.loc (c : Thread nD τ)) ↦[setS 0]{fullShare.right} GA e.W c) (Inv c e z s r w f) := by
  refine acc_trans (acc_l ?_) (acc_own e c)
  unfold ownA; rw [if_pos hz]; exact acc_self _
theorem acc_B1 (hz : 2 ≤ z) : Acc ((bM.view.loc (c : Thread nD τ)) ↦[setS 0]{fullShare.right} GB e.W c) (Inv c e z s r w f) := by
  refine acc_trans (acc_r <| acc_l ?_) (acc_own e c)
  unfold ownB; rw [if_pos hz]; exact acc_self _
theorem acc_M1 (hz : 3 ≤ z) : Acc ((mM.view.loc (c : Thread nD τ)) ↦[setM 0]{restS 7} GM e.W e.IX c) (Inv c e z s r w f) := by
  refine acc_trans (acc_r <| acc_r ?_) (acc_own e c)
  unfold ownM; rw [if_pos hz]; exact acc_self _
theorem acc_A (h : Fin 7) (q : Fin 4) (hr : recvIx (.inl (h, q)) < r) :
    Acc ((aM.view.loc (c : Thread nD τ)) ↦[setW (h.val + 1) q]{fullShare.right} GA e.W c) (Inv c e z s r w f) :=
  acc_trans (acc_l (acc_self _)) (acc_V e c (.inl (h, q)) hr)
theorem acc_B (h : Fin 7) (q : Fin 4) (hr : recvIx (.inr (.inl (h, q))) < r) :
    Acc ((bM.view.loc (c : Thread nD τ)) ↦[setW (h.val + 1) q]{fullShare.right} GB e.W c) (Inv c e z s r w f) :=
  acc_trans (acc_l (acc_self _)) (acc_V e c (.inr (.inl (h, q))) hr)
theorem acc_M (k : Fin 7) (hr : recvIx (.inr (.inr k)) < r) :
    Acc ((mM.view.loc (c : Thread nD τ)) ↦[setM (k.val + 1)]{fullShare} GM e.W e.IX c) (Inv c e z s r w f) :=
  acc_V e c (.inr (.inr k)) hr

/-! ## What the loads read -/

/-- Expert `j`'s block in slot `s`, row `row` of slot `k` from column `off`. -/
def ldA (W : Dev nD → Vec F S4x256x512 .bf16) (s j : ℕ) : Vec F S1x1x256x256 .i8 :=
  fun y => GA W c (ix4 (Fin.ofNat 8 s) (Fin.ofNat 4 j) (y 2) (y 3))
def ldB (W : Dev nD → Vec F S4x256x512 .bf16) (s j : ℕ) : Vec F S1x1x256x256 .i8 :=
  fun y => GB W c (ix4 (Fin.ofNat 8 s) (Fin.ofNat 4 j) (y 2) (y 3))
def ldM (W : Dev nD → Vec F S4x256x512 .bf16) (IX : Dev nD → Vec F S1024x1 .i32) (k row off : ℕ) : Vec F S1x1x256 .f32 :=
  fun y => GM W IX c (ix3 (Fin.ofNat 8 k) (Fin.ofNat 5 row) (Fin.ofNat 512 (off + (y 2).val)))

theorem setOn_whole (b : Ref sig .tc) (s : Finset b.ty.shape.Idx) {i} (h : i ∈ (Memref.whole b : Memref sig .tc _ _ _).view.setOn s) : i ∈ s := by
  obtain ⟨y, hy, rfl⟩ := Finset.mem_map.mp h
  exact hy

/-- A load of a whole operand. -/
theorem step_ldX {inb} {hl} {k : Vec F S1024x256 .bf16 → Prog (TpuEff nD τ sig (Elt F) Λ₀ .tc) α} {Q : α → sProp 𝕄}
    (H : Inv c e z s r w f ⊢ wpc c (k (e.X c)) Q) :
    Inv c e z s r w f ⊢ wpc c (Prog.lift (.load xM (Rect.unit (s := S1024x256) ![0, 0] S1024x256.size inb).toLoadRect hl) >>= k) Q :=
  step_load c (acc_x e c) (Finset.subset_univ _) (Memref.readAt_unit_zero (Elt F) cc0_stg0_0 (by decide) inb (e.X c)) H
theorem step_ldI {inb} {hl} {k : Vec F S1024x1 .i32 → Prog (TpuEff nD τ sig (Elt F) Λ₀ .tc) α} {Q : α → sProp 𝕄}
    (H : Inv c e z s r w f ⊢ wpc c (k (e.IX c)) Q) :
    Inv c e z s r w f ⊢ wpc c (Prog.lift (.load iM (Rect.unit (s := S1024x1) ![0, 0] S1024x1.size inb).toLoadRect hl) >>= k) Q :=
  step_load c (acc_i e c) (Finset.subset_univ _) (Memref.readAt_unit_zero (Elt F) cc0_stg1_0 (by decide) inb (e.IX c)) H
theorem step_ldW {inb} {hl} {k : Vec F S4x256x512 .bf16 → Prog (TpuEff nD τ sig (Elt F) Λ₀ .tc) α} {Q : α → sProp 𝕄}
    (H : Inv c e z s r w f ⊢ wpc c (k (e.W c)) Q) :
    Inv c e z s r w f ⊢ wpc c (Prog.lift (.load wM (Rect.unit (s := S4x256x512) ![0, 0, 0] S4x256x512.size inb).toLoadRect hl) >>= k) Q :=
  step_load c (acc_w e c) (Finset.subset_univ _) (Memref.readAt_unit_zero (Elt F) cc0_stg2_0 (by decide) inb (e.W c)) H

/-- The own slots' rectangles. -/
theorem rectS_set (inb) : (Rect.unit (s := S8x4x256x256) ![0, 0, 0, 0] S1x4x256x256.size inb).set = setS 0 := by
  ext i
  rw [Rect.mem_set_unit, mem_setS, Fin.forall_fin_succ, Fin.forall_fin_succ, Fin.forall_fin_two]
  have h1 : (i 1).val < 4 := (i 1).isLt
  have h2 : (i 2).val < 256 := (i 2).isLt
  have h3 : (i 3).val < 256 := (i 3).isLt
  constructor
  · rintro ⟨⟨h, h'⟩, -⟩
    have h' : (i 0).val < 0 + 1 := h'
    omega
  · intro h
    exact ⟨⟨Nat.zero_le _, show (i 0).val < 0 + 1 by omega⟩, ⟨Nat.zero_le _, show (i 1).val < 0 + 4 by omega⟩, ⟨Nat.zero_le _, show (i 2).val < 0 + 256 by omega⟩, ⟨Nat.zero_le _, show (i 3).val < 0 + 256 by omega⟩⟩
/-- What an own slot holds before its store: read, never used. -/
theorem step_ldA0 (hz : z < 1) {inb} {hl} {k : Vec F S1x4x256x256 .i8 → Prog (TpuEff nD τ sig (Elt F) Λ₀ .tc) α} {Q : α → sProp 𝕄}
    (H : ∀ v, Inv c e z s r w f ⊢ wpc c (k v) Q) :
    Inv c e z s r w f ⊢ wpc c (Prog.lift (.load aM (Rect.unit (s := S8x4x256x256) ![0, 0, 0, 0] S1x4x256x256.size inb).toLoadRect hl) >>= k) Q :=
  step_load c (acc_A0 e c hz) (fun i hi => rectS_set inb ▸ setOn_whole cc0_scratch0 _ hi) rfl (H _)
theorem step_ldB0 (hz : z < 2) {inb} {hl} {k : Vec F S1x4x256x256 .i8 → Prog (TpuEff nD τ sig (Elt F) Λ₀ .tc) α} {Q : α → sProp 𝕄}
    (H : ∀ v, Inv c e z s r w f ⊢ wpc c (k v) Q) :
    Inv c e z s r w f ⊢ wpc c (Prog.lift (.load bM (Rect.unit (s := S8x4x256x256) ![0, 0, 0, 0] S1x4x256x256.size inb).toLoadRect hl) >>= k) Q :=
  step_load c (acc_B0 e c hz) (fun i hi => rectS_set inb ▸ setOn_whole cc0_scratch1 _ hi) rfl (H _)
theorem step_ldM0 (hz : z < 3) {inb} {hl} {k : Vec F S1x5x512 .f32 → Prog (TpuEff nD τ sig (Elt F) Λ₀ .tc) α} {Q : α → sProp 𝕄}
    (v) (hv : mM.view.readAt (Elt F) (Rect.unit (s := S8x5x512) ![0, 0, 0] S1x5x512.size inb).toLoadRect e.fM = v)
    (H : Inv c e z s r w f ⊢ wpc c (k v) Q) :
    Inv c e z s r w f ⊢ wpc c (Prog.lift (.load mM (Rect.unit (s := S8x5x512) ![0, 0, 0] S1x5x512.size inb).toLoadRect hl) >>= k) Q :=
  step_load c (acc_M0 e c hz) (fun i hi => rectM_set 0 inb ▸ setOn_whole cc0_scratch2 _ hi) hv H

theorem setW_setS {s q : ℕ} {i} (h : i ∈ setW s q) : i ∈ setS s := mem_setS.mpr (mem_setW.mp h).1

theorem readA_eq (W : Dev nD → Vec F S4x256x512 .bf16) (s j : ℕ) (inb) :
    aM.view.readAt (Elt F) (Rect.unit (s := S8x4x256x256) ![s, j, 0, 0] S1x1x256x256.size inb).toLoadRect (GA W c) = ldA c W s j := by
  have h0 := inb 0; have h1 := inb 1
  change s + 1 ≤ 8 at h0; change j + 1 ≤ 4 at h1
  funext y
  have hy0 : (y 0).val < 1 := (y 0).isLt
  have hy1 : (y 1).val < 1 := (y 1).isLt
  refine GA_congr W (congrArg (fun n => dsh c (8 - n)) ?_) ?_ ?_ ?_
  · show s + 1 * (y 0).val = s % 8; omega
  · show j + 1 * (y 1).val = j % 4; omega
  · show 0 + 1 * (y 2).val = (y 2).val; omega
  · show 0 + 1 * (y 3).val = (y 3).val; omega
theorem readB_eq (W : Dev nD → Vec F S4x256x512 .bf16) (s j : ℕ) (inb) :
    bM.view.readAt (Elt F) (Rect.unit (s := S8x4x256x256) ![s, j, 0, 0] S1x1x256x256.size inb).toLoadRect (GB W c) = ldB c W s j := by
  have h0 := inb 0; have h1 := inb 1
  change s + 1 ≤ 8 at h0; change j + 1 ≤ 4 at h1
  funext y
  have hy0 : (y 0).val < 1 := (y 0).isLt
  have hy1 : (y 1).val < 1 := (y 1).isLt
  refine GB_congr W (congrArg (fun n => dsh c n) ?_) ?_ ?_ ?_
  · show s + 1 * (y 0).val = s % 8; omega
  · show j + 1 * (y 1).val = j % 4; omega
  · show 0 + 1 * (y 2).val = (y 2).val; omega
  · show 0 + 1 * (y 3).val = (y 3).val; omega
theorem readM_eq (W : Dev nD → Vec F S4x256x512 .bf16) (IX : Dev nD → Vec F S1024x1 .i32) (k row off : ℕ) (inb) :
    mM.view.readAt (Elt F) (Rect.unit (s := S8x5x512) ![k, row, off] S1x1x256.size inb).toLoadRect (GM W IX c) = ldM c W IX k row off := by
  have h0 := inb 0; have h1 := inb 1; have h2 := inb 2
  change k + 1 ≤ 8 at h0; change row + 1 ≤ 5 at h1; change off + 256 ≤ 512 at h2
  funext y
  have hy0 : (y 0).val < 1 := (y 0).isLt
  have hy1 : (y 1).val < 1 := (y 1).isLt
  have hy2 : (y 2).val < 256 := (y 2).isLt
  refine GM_congr W IX (congrArg (fun n => dsh c (8 - n)) ?_) ?_ ?_
  · show k + 1 * (y 0).val = k % 8; omega
  · show row + 1 * (y 1).val = row % 5; omega
  · show off + 1 * (y 2).val = (off + (y 2).val) % 512; omega
theorem rectRow_set (k row off : ℕ) (inb) {i} (h : i ∈ (Rect.unit (s := S8x5x512) ![k, row, off] S1x1x256.size inb).set) : i ∈ setM k := by
  rw [Rect.mem_set_unit] at h
  have h0 := h 0
  change k ≤ (i 0).val ∧ (i 0).val < k + 1 at h0
  exact mem_setM.mpr (by omega)

/-- When slot `s`, block `j` of a buffer can be read: its own after its store, another's after its arrival. -/
def haveA (z r s j : ℕ) : Bool :=
  if s = 0 then decide (1 ≤ z) else if h : s < 8 ∧ j < 4 then decide (recvIx (.inl (⟨s - 1, by omega⟩, ⟨j, h.2⟩)) < r) else false
def haveB (z r s j : ℕ) : Bool :=
  if s = 0 then decide (2 ≤ z) else if h : s < 8 ∧ j < 4 then decide (recvIx (.inr (.inl (⟨s - 1, by omega⟩, ⟨j, h.2⟩))) < r) else false
def haveM (z r k : ℕ) : Bool :=
  if k = 0 then decide (3 ≤ z) else if h : k < 8 then decide (recvIx (.inr (.inr ⟨k - 1, by omega⟩)) < r) else false

theorem step_ldA {t j : ℕ} (h : haveA z r t j = true) {inb} {hl} {k : Vec F S1x1x256x256 .i8 → Prog (TpuEff nD τ sig (Elt F) Λ₀ .tc) α} {Q : α → sProp 𝕄}
    (H : Inv c e z s r w f ⊢ wpc c (k (ldA c e.W t j)) Q) :
    Inv c e z s r w f ⊢ wpc c (Prog.lift (.load aM (Rect.unit (s := S8x4x256x256) ![t, j, 0, 0] S1x1x256x256.size inb).toLoadRect hl) >>= k) Q := by
  have hset : ∀ i, i ∈ aM.view.setOn (Rect.unit (s := S8x4x256x256) ![t, j, 0, 0] S1x1x256x256.size inb).toLoadRect.set → i ∈ setW t j :=
    fun i hi => rectW_set t j inb ▸ setOn_whole cc0_scratch0 _ hi
  unfold haveA at h
  by_cases ht : t = 0
  · subst ht
    exact step_load c (acc_A1 e c (by simpa using h)) (fun i hi => setW_setS (hset i hi)) (readA_eq c e.W 0 j inb) H
  · rw [if_neg ht] at h
    split at h
    · rename_i hb
      refine step_load c (acc_A e c ⟨t - 1, by omega⟩ ⟨j, hb.2⟩ (by simpa using h)) (fun i hi => ?_) (readA_eq c e.W t j inb) H
      have hm := mem_setW.mp (hset i hi)
      exact mem_setW.mpr ⟨by show (i 0).val = t - 1 + 1; omega, hm.2⟩
    · cases h
theorem step_ldB {t j : ℕ} (h : haveB z r t j = true) {inb} {hl} {k : Vec F S1x1x256x256 .i8 → Prog (TpuEff nD τ sig (Elt F) Λ₀ .tc) α} {Q : α → sProp 𝕄}
    (H : Inv c e z s r w f ⊢ wpc c (k (ldB c e.W t j)) Q) :
    Inv c e z s r w f ⊢ wpc c (Prog.lift (.load bM (Rect.unit (s := S8x4x256x256) ![t, j, 0, 0] S1x1x256x256.size inb).toLoadRect hl) >>= k) Q := by
  have hset : ∀ i, i ∈ bM.view.setOn (Rect.unit (s := S8x4x256x256) ![t, j, 0, 0] S1x1x256x256.size inb).toLoadRect.set → i ∈ setW t j :=
    fun i hi => rectW_set t j inb ▸ setOn_whole cc0_scratch1 _ hi
  unfold haveB at h
  by_cases ht : t = 0
  · subst ht
    exact step_load c (acc_B1 e c (by simpa using h)) (fun i hi => setW_setS (hset i hi)) (readB_eq c e.W 0 j inb) H
  · rw [if_neg ht] at h
    split at h
    · rename_i hb
      refine step_load c (acc_B e c ⟨t - 1, by omega⟩ ⟨j, hb.2⟩ (by simpa using h)) (fun i hi => ?_) (readB_eq c e.W t j inb) H
      have hm := mem_setW.mp (hset i hi)
      exact mem_setW.mpr ⟨by show (i 0).val = t - 1 + 1; omega, hm.2⟩
    · cases h
theorem step_ldM {t row off : ℕ} (h : haveM z r t = true) {inb} {hl} {k : Vec F S1x1x256 .f32 → Prog (TpuEff nD τ sig (Elt F) Λ₀ .tc) α} {Q : α → sProp 𝕄}
    (H : Inv c e z s r w f ⊢ wpc c (k (ldM c e.W e.IX t row off)) Q) :
    Inv c e z s r w f ⊢ wpc c (Prog.lift (.load mM (Rect.unit (s := S8x5x512) ![t, row, off] S1x1x256.size inb).toLoadRect hl) >>= k) Q := by
  have hset : ∀ i, i ∈ mM.view.setOn (Rect.unit (s := S8x5x512) ![t, row, off] S1x1x256.size inb).toLoadRect.set → i ∈ setM t :=
    fun i hi => rectRow_set t row off inb (setOn_whole cc0_scratch2 _ hi)
  unfold haveM at h
  by_cases ht : t = 0
  · subst ht
    exact step_load c (acc_M1 e c (by simpa using h)) (fun i hi => hset i hi) (readM_eq c e.W e.IX 0 row off inb) H
  · rw [if_neg ht] at h
    split at h
    · rename_i hb
      refine step_load c (acc_M e c ⟨t - 1, by omega⟩ (by simpa using h)) (fun i hi => ?_) (readM_eq c e.W e.IX t row off inb) H
      have hm := mem_setM.mp (hset i hi)
      exact mem_setM.mpr (by show (i 0).val = t - 1 + 1; omega)
    · cases h

/-! ## The result buffer -/

theorem mkOut_left (a b : FVec F S1024x256 .f32) (i : S1024x512.Idx) (y : S1024x256.Idx) (h0 : (i 0).val = (y 0).val) (h1 : (i 1).val = (y 1).val) : mkOut a b i = a y := by
  have hy : (y 1).val < 256 := (y 1).isLt
  unfold mkOut
  rw [dif_pos (by omega)]
  congr 1
  funext a; match a with
  | 0 => exact Fin.ext h0
  | 1 => exact Fin.ext h1
theorem mkOut_right (a b : FVec F S1024x256 .f32) (i : S1024x512.Idx) (y : S1024x256.Idx) (h0 : (i 0).val = (y 0).val) (h1 : (i 1).val = 256 + (y 1).val) : mkOut a b i = b y := by
  unfold mkOut
  rw [dif_neg (by omega)]
  congr 1
  funext a; match a with
  | 0 => exact Fin.ext h0
  | 1 => exact Fin.ext (by show (i 1).val - 256 = _; omega)
theorem mkOut_self (f : S1024x512.Idx → Elt F .f32) :
    mkOut (fun y => f (ix2 (y 0) ⟨(y 1).val, by have : (y 1).val < 256 := (y 1).isLt; omega⟩)) (fun y => f (ix2 (y 0) ⟨256 + (y 1).val, by have : (y 1).val < 256 := (y 1).isLt; omega⟩)) = f := by
  funext i
  have hi : (i 1).val < 512 := (i 1).isLt
  by_cases h : (i 1).val < 256
  · rw [mkOut_left _ _ i (ix2 (i 0) ⟨(i 1).val, h⟩) rfl rfl]
    congr 1; funext a; match a with | 0 => rfl | 1 => rfl
  · rw [mkOut_right _ _ i (ix2 (i 0) ⟨(i 1).val - 256, by omega⟩) rfl (by show (i 1).val = 256 + ((i 1).val - 256); omega)]
    congr 1; funext a; match a with | 0 => rfl | 1 => exact Fin.ext (by show 256 + ((i 1).val - 256) = (i 1).val; omega)

theorem read_left (a b : FVec F S1024x256 .f32) (inb) :
    oM.view.readAt (Elt F) (Rect.unit (s := S1024x512) ![0, 0] S1024x256.size inb).toLoadRect (mkOut a b) = a := by
  funext y
  exact mkOut_left a b ((Rect.unit (s := S1024x512) ![0, 0] S1024x256.size inb).emb y) y (by show 0 + 1 * (y 0).val = _; omega) (by show 0 + 1 * (y 1).val = _; omega)
theorem read_right (a b : FVec F S1024x256 .f32) (inb) :
    oM.view.readAt (Elt F) (Rect.unit (s := S1024x512) ![0, 256] S1024x256.size inb).toLoadRect (mkOut a b) = b := by
  funext y
  exact mkOut_right a b ((Rect.unit (s := S1024x512) ![0, 256] S1024x256.size inb).emb y) y (by show 0 + 1 * (y 0).val = _; omega) (by show 256 + 1 * (y 1).val = _; omega)

theorem step_ldL {a b : FVec F S1024x256 .f32} {inb} {hl} {k : Vec F S1024x256 .f32 → Prog (TpuEff nD τ sig (Elt F) Λ₀ .tc) α} {Q : α → sProp 𝕄}
    (H : Inv c e z s r w (mkOut a b) ⊢ wpc c (k a) Q) :
    Inv c e z s r w (mkOut a b) ⊢ wpc c (Prog.lift (.load oM (Rect.unit (s := S1024x512) ![0, 0] S1024x256.size inb).toLoadRect hl) >>= k) Q :=
  step_load c (acc_o e c) (Finset.subset_univ _) (read_left a b inb) H
theorem step_ldR {a b : FVec F S1024x256 .f32} {inb} {hl} {k : Vec F S1024x256 .f32 → Prog (TpuEff nD τ sig (Elt F) Λ₀ .tc) α} {Q : α → sProp 𝕄}
    (H : Inv c e z s r w (mkOut a b) ⊢ wpc c (k b) Q) :
    Inv c e z s r w (mkOut a b) ⊢ wpc c (Prog.lift (.load oM (Rect.unit (s := S1024x512) ![0, 256] S1024x256.size inb).toLoadRect hl) >>= k) Q :=
  step_load c (acc_o e c) (Finset.subset_univ _) (read_right a b inb) H

theorem put_out {f' : S1024x512.Idx → Elt F .f32} :
    Inv c e z s r w f ⊢ iprop(((oM.view.loc (c : Thread nD τ)) ↦[Finset.univ]{fullShare} f) ∗ (((oM.view.loc (c : Thread nD τ)) ↦[Finset.univ]{fullShare} f') -∗ Inv c e z s r w f')) := by
  unfold Inv outP
  iintro ⟨#Hp, HU, HV, HX, HY, Hown, Hbar, Hins, Hout, HO⟩
  isplitl [Hout]; · iexact Hout
  iintro Hout
  isplitr; · iexact Hp
  isplitl [HU]; · iexact HU
  isplitl [HV]; · iexact HV
  isplitl [HX]; · iexact HX
  isplitl [HY]; · iexact HY
  isplitl [Hown]; · iexact Hown
  isplitl [Hbar]; · iexact Hbar
  isplitl [Hins]; · iexact Hins
  isplitl [Hout]; · iexact Hout
  iexact HO

theorem writeL (a b v : FVec F S1024x256 .f32) (inb) :
    (oM.access (Rect.unit (s := S1024x512) ![0, 0] S1024x256.size inb)).write (Elt F) (mkOut a b) v Finset.univ = mkOut v b := by
  funext i
  have hi : (i 1).val < 512 := (i 1).isLt
  have hi0 : (i 0).val < 1024 := (i 0).isLt
  by_cases h : (i 1).val < 256
  · have he : i = (oM.access (Rect.unit (s := S1024x512) ![0, 0] S1024x256.size inb)).emb (ix2 (i 0) ⟨(i 1).val, h⟩ : S1024x256.Idx) := by
      funext a; match a with
      | 0 => exact Fin.ext (by show (i 0).val = 0 + 1 * (i 0).val; omega)
      | 1 => exact Fin.ext (by show (i 1).val = 0 + 1 * (i 1).val; omega)
    rw [mkOut_left v b i (ix2 (i 0) ⟨(i 1).val, h⟩) rfl rfl]
    conv_lhs => rw [he]
    exact View.write_emb_of_mem _ _ (Finset.mem_univ _)
  · rw [View.write_of_not_mem]
    · rw [mkOut_right a b i (ix2 (i 0) ⟨(i 1).val - 256, by omega⟩) rfl (by show (i 1).val = 256 + ((i 1).val - 256); omega),
        mkOut_right v b i (ix2 (i 0) ⟨(i 1).val - 256, by omega⟩) rfl (by show (i 1).val = 256 + ((i 1).val - 256); omega)]
    · intro hm
      obtain ⟨y, -, rfl⟩ := Finset.mem_map.mp hm
      have hy : (y 1).val < 256 := (y 1).isLt
      exact h (by show 0 + 1 * (y 1).val < 256; omega)
theorem writeR (a b v : FVec F S1024x256 .f32) (inb) :
    (oM.access (Rect.unit (s := S1024x512) ![0, 256] S1024x256.size inb)).write (Elt F) (mkOut a b) v Finset.univ = mkOut a v := by
  funext i
  have hi : (i 1).val < 512 := (i 1).isLt
  have hi0 : (i 0).val < 1024 := (i 0).isLt
  by_cases h : (i 1).val < 256
  · rw [View.write_of_not_mem]
    · rw [mkOut_left a b i (ix2 (i 0) ⟨(i 1).val, h⟩) rfl rfl, mkOut_left a v i (ix2 (i 0) ⟨(i 1).val, h⟩) rfl rfl]
    · intro hm
      obtain ⟨y, -, rfl⟩ := Finset.mem_map.mp hm
      have hh : 256 + 1 * (y 1).val < 256 := h
      omega
  · have he : i = (oM.access (Rect.unit (s := S1024x512) ![0, 256] S1024x256.size inb)).emb (ix2 (i 0) ⟨(i 1).val - 256, by omega⟩ : S1024x256.Idx) := by
      funext a; match a with
      | 0 => exact Fin.ext (by show (i 0).val = 0 + 1 * (i 0).val; omega)
      | 1 => exact Fin.ext (by show (i 1).val = 256 + 1 * ((i 1).val - 256); omega)
    rw [mkOut_right a v i (ix2 (i 0) ⟨(i 1).val - 256, by omega⟩) rfl (by show (i 1).val = 256 + ((i 1).val - 256); omega)]
    conv_lhs => rw [he]
    exact View.write_emb_of_mem _ _ (Finset.mem_univ _)

theorem step_stL {a b v : FVec F S1024x256 .f32} (v' : FVec F S1024x256 .f32) (hv : v = v') {inb} {hx hm} {k : PUnit → Prog (TpuEff nD τ sig (Elt F) Λ₀ .tc) α} {Q : α → sProp 𝕄}
    (H : Inv c e z s r w (mkOut v' b) ⊢ wpc c (k ⟨⟩) Q) :
    Inv c e z s r w (mkOut a b) ⊢ wpc c (Prog.lift (.store oM (Rect.unit (s := S1024x512) ![0, 0] S1024x256.size inb) v Finset.univ hx hm) >>= k) Q := by
  subst hv
  exact step_store c (m := oM) (r := Rect.unit (s := S1024x512) ![0, 0] S1024x256.size inb) (v := v) (f := mkOut a b) (I := Finset.univ) (g := mkOut v b) (hx := hx) (hm := hm)
    (Finset.subset_univ _) (fun i _ => congrFun (writeL a b v inb) i) (put_out e c) H
theorem step_stR {a b v : FVec F S1024x256 .f32} (v' : FVec F S1024x256 .f32) (hv : v = v') {inb} {hx hm} {k : PUnit → Prog (TpuEff nD τ sig (Elt F) Λ₀ .tc) α} {Q : α → sProp 𝕄}
    (H : Inv c e z s r w (mkOut a v') ⊢ wpc c (k ⟨⟩) Q) :
    Inv c e z s r w (mkOut a b) ⊢ wpc c (Prog.lift (.store oM (Rect.unit (s := S1024x512) ![0, 256] S1024x256.size inb) v Finset.univ hx hm) >>= k) Q := by
  subst hv
  exact step_store c (m := oM) (r := Rect.unit (s := S1024x512) ![0, 256] S1024x256.size inb) (v := v) (f := mkOut a b) (I := Finset.univ) (g := mkOut a v) (hx := hx) (hm := hm)
    (Finset.subset_univ _) (fun i _ => congrFun (writeR a b v inb) i) (put_out e c) H

end Cert.Moe

end
-- ==== Proof.Ops.lean ====
/-
# The body's own stores, and its transfers as the program writes them
-/
module

public import proofs.«01_k».proof.Proof.Access

@[expose] public section

noncomputable section

namespace Cert.Moe
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Several entries of a family filled in at once. -/
theorem fam_put {I J : Type} [Fintype I] [DecidableEq I] [Fintype J] (g : J ↪ I) {Φ Ψ : I → sProp 𝕄} (h : ∀ i, (∀ j, g j ≠ i) → Φ i = Ψ i) :
    iprop(bigSep Finset.univ (fun j => Ψ (g j)) ∗ bigSep Finset.univ Φ) ⊢ bigSep Finset.univ Ψ := by
  have h1 : bigSep Finset.univ Ψ = iprop(bigSep Finset.univ (fun j => Ψ (g j)) ∗ bigSep (Finset.univ \ Finset.univ.map g) Ψ) := by
    rw [← bigSep_map g]; exact bigSep_sdiff_split (Finset.subset_univ _)
  have h2 : bigSep (Finset.univ \ Finset.univ.map g) Φ = bigSep (Finset.univ \ Finset.univ.map g) Ψ :=
    bigSep_congr fun i hi => h i fun j hj => (Finset.mem_sdiff.mp hi).2 (Finset.mem_map.mpr ⟨j, Finset.mem_univ _, hj⟩)
  have hs : bigSep Finset.univ Φ ⊢ bigSep (Finset.univ \ Finset.univ.map g) Φ := bigSep_subset (Finset.subset_univ _)
  rw [h1, ← h2]
  iintro ⟨Hj, Hr⟩
  isplitl [Hj]; · iexact Hj
  iapply hs; iexact Hr

theorem ready_z {z r : ℕ} {t : T} (h : prev t = none → rank t ≠ z + 1) : ready z r t = ready (z + 1) r t := by
  unfold ready
  cases hp : prev t with
  | some p => rfl
  | none => have := h hp; exact decide_eq_decide.mpr (by omega)

variable (e : Env F) (c : Dev nD) {α : Type}

/-- What an own store makes ready, put among what the transfers will read. -/
theorem famY_put {J : Type} [Fintype J] (g : J ↪ T) {z s r : ℕ} (hg : ∀ j, s ≤ sendIx (g j) ∧ ready (z + 1) r (g j) = true)
    (h : ∀ t, (∀ j, g j ≠ t) → prev t = none → rank t ≠ z + 1) :
    iprop(bigSep Finset.univ (fun j => sendPay e.W e.IX c (g j)) ∗ bigSep Finset.univ (famY e.W e.IX c z s r)) ⊢ (bigSep Finset.univ (famY e.W e.IX c (z + 1) s r) : sProp 𝕄) := by
  have h1 : (fun j => sendPay e.W e.IX c (g j)) = fun j => famY e.W e.IX c (z + 1) s r (g j) := funext fun j => by
    unfold famY; rw [if_neg (by have := (hg j).1; omega), if_pos (hg j).2]
  rw [h1]
  exact fam_put g fun t ht => by unfold famY; rw [ready_z (h t ht)]

def gA : Fin 4 ↪ T := ⟨fun q => .inl (0, q), fun a b h => by simpa using h⟩
def gB : Fin 4 ↪ T := ⟨fun q => .inr (.inl (0, q)), fun a b h => by simpa using h⟩
def gM : Fin 7 ↪ T := ⟨fun k => .inr (.inr k), fun a b h => by simpa using h⟩
theorem gA_rest : ∀ t, (∀ j, gA j ≠ t) → prev t = none → rank t ≠ 0 + 1 := by decide +kernel
theorem gB_rest : ∀ t, (∀ j, gB j ≠ t) → prev t = none → rank t ≠ 1 + 1 := by decide +kernel
theorem gM_rest : ∀ t, (∀ j, gM j ≠ t) → prev t = none → rank t ≠ 2 + 1 := by decide +kernel

theorem setS_eq (s : ℕ) : setS s = (Finset.univ : Finset (Fin 4)).biUnion fun q => setW s q := by
  ext i
  rw [mem_setS, Finset.mem_biUnion]
  have h1 : (i 1).val < 4 := (i 1).isLt
  exact ⟨fun h => ⟨i 1, Finset.mem_univ _, mem_setW.mpr ⟨h, rfl⟩⟩, fun ⟨q, _, h⟩ => (mem_setW.mp h).1⟩
theorem setW_disj {s s' q q' : ℕ} (h : s ≠ s' ∨ q ≠ q') : Disjoint (setW s q) (setW s' q') :=
  Finset.disjoint_left.mpr fun i hi hi' => by
    have h1 := mem_setW.mp hi; have h2 := mem_setW.mp hi'; omega

theorem splitA (c : Dev nD) (s : ℕ) (π : PosShare TreeShare) (f : Buf (Elt F) ((c : Thread nD τ).loc cc0_scratch0)) :
    (((c : Thread nD τ).loc cc0_scratch0) ↦[setS s]{π} f : sProp 𝕄) = bigSep Finset.univ fun q : Fin 4 => ptA c s q π f := by
  rw [setS_eq]
  exact pointsTo_biUnion _ _ fun q _ q' _ hq => setW_disj (.inr fun h => hq (Fin.ext h))
theorem splitB (c : Dev nD) (s : ℕ) (π : PosShare TreeShare) (f : Buf (Elt F) ((c : Thread nD τ).loc cc0_scratch1)) :
    (((c : Thread nD τ).loc cc0_scratch1) ↦[setS s]{π} f : sProp 𝕄) = bigSep Finset.univ fun q : Fin 4 => ptB c s q π f := by
  rw [setS_eq]
  exact pointsTo_biUnion _ _ fun q _ q' _ hq => setW_disj (.inr fun h => hq (Fin.ext h))
/-- Slot 0 of the metadata, by the shares the seven transfers take and the one left. -/
theorem splitM_range (c : Dev nD) (f : Buf (Elt F) ((c : Thread nD τ).loc cc0_scratch2)) (n : ℕ) :
    (ptM c 0 fullShare f : sProp 𝕄) = iprop(bigSep (Finset.range n) (fun k => ptM c 0 (tokS k) f) ∗ ptM c 0 (restS n) f) := by
  induction n with
  | zero =>
    rw [Finset.range_zero, bigSep_empty]
    exact BI.Entails.antisymm emp_sep.2 emp_sep.1
  | succ n ih =>
    have hr : (bigSep (Finset.range (n + 1)) (fun k => ptM c 0 (tokS k) f) : sProp 𝕄) = iprop(ptM c 0 (tokS n) f ∗ bigSep (Finset.range n) (fun k => ptM c 0 (tokS k) f)) := by
      rw [Finset.range_add_one]; exact bigSep_insert Finset.notMem_range_self
    have h : (ptM c 0 (restS n) f : sProp 𝕄) ⊣⊢ iprop(ptM c 0 (tokS n) f ∗ ptM c 0 (restS (n + 1)) f) := pointsTo_share (PosShare.mem_left_op_right (restS n))
    rw [ih, hr]
    have h1 : iprop(bigSep (Finset.range n) (fun k => ptM c 0 (tokS k) f) ∗ ptM c 0 (restS n) f)
        ⊢ (iprop((ptM c 0 (tokS n) f ∗ bigSep (Finset.range n) (fun k => ptM c 0 (tokS k) f)) ∗ ptM c 0 (restS (n + 1)) f) : sProp 𝕄) := by
      iintro ⟨Hs, Hr⟩
      ihave Hr' := h.1 $$ Hr
      icases Hr' with ⟨Hl, Hr⟩
      isplitl [Hs Hl]
      · isplitl [Hl]; · iexact Hl
        iexact Hs
      iexact Hr
    have h2 : iprop((ptM c 0 (tokS n) f ∗ bigSep (Finset.range n) (fun k => ptM c 0 (tokS k) f)) ∗ ptM c 0 (restS (n + 1)) f)
        ⊢ (iprop(bigSep (Finset.range n) (fun k => ptM c 0 (tokS k) f) ∗ ptM c 0 (restS n) f) : sProp 𝕄) := by
      iintro ⟨⟨Hl, Hs⟩, Hr⟩
      isplitl [Hs]; · iexact Hs
      iapply h.2
      isplitl [Hl]; · iexact Hl
      iexact Hr
    exact BI.Entails.antisymm h1 h2
theorem splitM (c : Dev nD) (f : Buf (Elt F) ((c : Thread nD τ).loc cc0_scratch2)) :
    (ptM c 0 fullShare f : sProp 𝕄) = iprop(bigSep Finset.univ (fun k : Fin 7 => ptM c 0 (tokS k) f) ∗ ptM c 0 (restS 7) f) := by
  rw [splitM_range c f 7, show Finset.range 7 = (Finset.univ : Finset (Fin 7)).map Fin.valEmbedding from by decide +kernel, bigSep_map]
  rfl

variable {z s r w : ℕ} {f : S1024x512.Idx → Elt F .f32}

/-! ## The three own stores -/

theorem own_A : own c e 0 ⊢ iprop(((aM.view.loc (c : Thread nD τ)) ↦[setS 0]{fullShare} e.fA)
    ∗ (((aM.view.loc (c : Thread nD τ)) ↦[setS 0]{fullShare} GA e.W c) -∗ bigSep Finset.univ (fun j => sendPay e.W e.IX c (gA j)) ∗ own c e 1)) := by
  unfold own ownA ownB ownM
  rw [if_neg (by decide), if_neg (by decide), if_neg (by decide), if_pos (by decide), if_neg (by decide), if_neg (by decide)]
  iintro ⟨HA, HB, HM⟩
  isplitl [HA]; · iexact HA
  iintro HA
  have h : (((c : Thread nD τ).loc cc0_scratch0) ↦[setS 0]{fullShare} GA e.W c : sProp 𝕄) ⊣⊢ iprop((((c : Thread nD τ).loc cc0_scratch0) ↦[setS 0]{fullShare.left} GA e.W c) ∗ (((c : Thread nD τ).loc cc0_scratch0) ↦[setS 0]{fullShare.right} GA e.W c)) :=
    pointsTo_share (PosShare.mem_left_op_right fullShare)
  ihave HA' := h.1 $$ HA
  icases HA' with ⟨Hl, Hr⟩
  isplitl [Hl]
  · ihave Hl' := (Entails.of_eq (splitA c 0 fullShare.left (GA e.W c))) $$ Hl
    iexact Hl'
  isplitl [Hr]; · iexact Hr
  isplitl [HB]; · iexact HB
  iexact HM
theorem own_B : own c e 1 ⊢ iprop(((bM.view.loc (c : Thread nD τ)) ↦[setS 0]{fullShare} e.fB)
    ∗ (((bM.view.loc (c : Thread nD τ)) ↦[setS 0]{fullShare} GB e.W c) -∗ bigSep Finset.univ (fun j => sendPay e.W e.IX c (gB j)) ∗ own c e 2)) := by
  unfold own ownA ownB ownM
  rw [if_pos (by decide), if_neg (by decide), if_neg (by decide), if_pos (by decide), if_pos (by decide), if_neg (by decide)]
  iintro ⟨HA, HB, HM⟩
  isplitl [HB]; · iexact HB
  iintro HB
  have h : (((c : Thread nD τ).loc cc0_scratch1) ↦[setS 0]{fullShare} GB e.W c : sProp 𝕄) ⊣⊢ iprop((((c : Thread nD τ).loc cc0_scratch1) ↦[setS 0]{fullShare.left} GB e.W c) ∗ (((c : Thread nD τ).loc cc0_scratch1) ↦[setS 0]{fullShare.right} GB e.W c)) :=
    pointsTo_share (PosShare.mem_left_op_right fullShare)
  ihave HB' := h.1 $$ HB
  icases HB' with ⟨Hl, Hr⟩
  isplitl [Hl]
  · ihave Hl' := (Entails.of_eq (splitB c 0 fullShare.left (GB e.W c))) $$ Hl
    iexact Hl'
  isplitl [HA]; · iexact HA
  isplitl [Hr]; · iexact Hr
  iexact HM
theorem own_M : own c e 2 ⊢ iprop(((mM.view.loc (c : Thread nD τ)) ↦[setM 0]{fullShare} e.fM)
    ∗ (((mM.view.loc (c : Thread nD τ)) ↦[setM 0]{fullShare} GM e.W e.IX c) -∗ bigSep Finset.univ (fun j => sendPay e.W e.IX c (gM j)) ∗ own c e 3)) := by
  unfold own ownA ownB ownM
  rw [if_pos (by decide), if_pos (by decide), if_neg (by decide), if_pos (by decide), if_pos (by decide), if_pos (by decide)]
  iintro ⟨HA, HB, HM⟩
  isplitl [HM]; · iexact HM
  iintro HM
  ihave HM' := (Entails.of_eq (splitM c (GM e.W e.IX c))) $$ HM
  icases HM' with ⟨Hl, Hr⟩
  isplitl [Hl]; · iexact Hl
  isplitl [HA]; · iexact HA
  isplitl [HB]; · iexact HB
  iexact Hr

/-- The state around an own store. -/
theorem put_own {J : Type} [Fintype J] (g : J ↪ T) (hg : ∀ j, s ≤ sendIx (g j) ∧ ready (z + 1) r (g j) = true)
    (h : ∀ t, (∀ j, g j ≠ t) → prev t = none → rank t ≠ z + 1) {P P' : sProp 𝕄}
    (ho : own c e z ⊢ iprop(P ∗ (P' -∗ bigSep Finset.univ (fun j => sendPay e.W e.IX c (g j)) ∗ own c e (z + 1)))) :
    Inv c e z s r w f ⊢ iprop(P ∗ (P' -∗ Inv c e (z + 1) s r w f)) := by
  unfold Inv
  iintro ⟨#Hp, HU, HV, HX, HY, Hown, Hbar, Hins, Hout, HO⟩
  ihave Hown' := ho $$ Hown
  icases Hown' with ⟨HP, Hw⟩
  isplitl [HP]; · iexact HP
  iintro HP
  ihave Hown' := Hw $$ HP
  icases Hown' with ⟨Hs, Hown⟩
  isplitr; · iexact Hp
  isplitl [HU]; · iexact HU
  isplitl [HV]; · iexact HV
  isplitl [HX]; · iexact HX
  isplitl [HY Hs]
  · iapply (famY_put e c g hg h)
    isplitl [Hs]; · iexact Hs
    iexact HY
  isplitl [Hown]; · iexact Hown
  isplitl [Hbar]; · iexact Hbar
  isplitl [Hins]; · iexact Hins
  isplitl [Hout]; · iexact Hout
  iexact HO

theorem set_access_A (inb) {i} (h : i ∈ (aM.access (Rect.unit (s := S8x4x256x256) ![0, 0, 0, 0] S1x4x256x256.size inb)).setOn Finset.univ) : i ∈ setS 0 := by
  obtain ⟨y, -, rfl⟩ := Finset.mem_map.mp h
  have hy : (y 0).val < 1 := (y 0).isLt
  exact mem_setS.mpr (show 0 + 1 * (y 0).val = 0 by omega)
theorem set_access_B (inb) {i} (h : i ∈ (bM.access (Rect.unit (s := S8x4x256x256) ![0, 0, 0, 0] S1x4x256x256.size inb)).setOn Finset.univ) : i ∈ setS 0 := by
  obtain ⟨y, -, rfl⟩ := Finset.mem_map.mp h
  have hy : (y 0).val < 1 := (y 0).isLt
  exact mem_setS.mpr (show 0 + 1 * (y 0).val = 0 by omega)
theorem set_access_M (inb) {i} (h : i ∈ (mM.access (Rect.unit (s := S8x5x512) ![0, 0, 0] S1x5x512.size inb)).setOn Finset.univ) : i ∈ setM 0 := by
  obtain ⟨y, -, rfl⟩ := Finset.mem_map.mp h
  have hy : (y 0).val < 1 := (y 0).isLt
  exact mem_setM.mpr (show 0 + 1 * (y 0).val = 0 by omega)

theorem writeA0 (inb) (f : S8x4x256x256.Idx → Elt F .i8) (W : Dev nD → Vec F S4x256x512 .bf16) {i : S8x4x256x256.Idx} (h : i ∈ setS 0) :
    (aM.access (Rect.unit (s := S8x4x256x256) ![0, 0, 0, 0] S1x4x256x256.size inb)).write (Elt F) f (k0_pay5 (W c)) Finset.univ i = GA W c i := by
  have h0 := mem_setS.mp h
  have he : i = (aM.access (Rect.unit (s := S8x4x256x256) ![0, 0, 0, 0] S1x4x256x256.size inb)).emb (ix4 (0 : Fin 1) (i 1) (i 2) (i 3) : S1x4x256x256.Idx) := by
    funext a; match a with
    | 0 => exact Fin.ext (by show (i 0).val = 0 + 1 * 0; omega)
    | 1 => exact Fin.ext (by show (i 1).val = 0 + 1 * (i 1).val; omega)
    | 2 => exact Fin.ext (by show (i 2).val = 0 + 1 * (i 2).val; omega)
    | 3 => exact Fin.ext (by show (i 3).val = 0 + 1 * (i 3).val; omega)
  conv_lhs => rw [he]
  refine (View.write_emb_of_mem _ _ (Finset.mem_univ _)).trans ?_
  unfold GA; rw [h0, Nat.sub_zero, dsh_eight]; rfl
theorem writeB0 (inb) (f : S8x4x256x256.Idx → Elt F .i8) (W : Dev nD → Vec F S4x256x512 .bf16) {i : S8x4x256x256.Idx} (h : i ∈ setS 0) :
    (bM.access (Rect.unit (s := S8x4x256x256) ![0, 0, 0, 0] S1x4x256x256.size inb)).write (Elt F) f (k0_pay7 (k0_pay6 (W c))) Finset.univ i = GB W c i := by
  have h0 := mem_setS.mp h
  have he : i = (bM.access (Rect.unit (s := S8x4x256x256) ![0, 0, 0, 0] S1x4x256x256.size inb)).emb (ix4 (0 : Fin 1) (i 1) (i 2) (i 3) : S1x4x256x256.Idx) := by
    funext a; match a with
    | 0 => exact Fin.ext (by show (i 0).val = 0 + 1 * 0; omega)
    | 1 => exact Fin.ext (by show (i 1).val = 0 + 1 * (i 1).val; omega)
    | 2 => exact Fin.ext (by show (i 2).val = 0 + 1 * (i 2).val; omega)
    | 3 => exact Fin.ext (by show (i 3).val = 0 + 1 * (i 3).val; omega)
  conv_lhs => rw [he]
  refine (View.write_emb_of_mem _ _ (Finset.mem_univ _)).trans ?_
  unfold GB; rw [h0, dsh_zero]; rfl
theorem writeM0 (inb) (f : S8x5x512.Idx → Elt F .f32) (W : Dev nD → Vec F S4x256x512 .bf16) (IX : Dev nD → Vec F S1024x1 .i32) {i : S8x5x512.Idx} (h : i ∈ setM 0) :
    (mM.access (Rect.unit (s := S8x5x512) ![0, 0, 0] S1x5x512.size inb)).write (Elt F) f (k0_pay11 (k0_pay10 (k0_pay3 (W c)) (IX c))) Finset.univ i = GM W IX c i := by
  have h0 := mem_setM.mp h
  have he : i = (mM.access (Rect.unit (s := S8x5x512) ![0, 0, 0] S1x5x512.size inb)).emb (ix3 (0 : Fin 1) (i 1) (i 2) : S1x5x512.Idx) := by
    funext a; match a with
    | 0 => exact Fin.ext (by show (i 0).val = 0 + 1 * 0; omega)
    | 1 => exact Fin.ext (by show (i 1).val = 0 + 1 * (i 1).val; omega)
    | 2 => exact Fin.ext (by show (i 2).val = 0 + 1 * (i 2).val; omega)
  conv_lhs => rw [he]
  refine (View.write_emb_of_mem _ _ (Finset.mem_univ _)).trans ?_
  unfold GM; rw [h0, Nat.sub_zero, dsh_eight]; rfl

theorem step_stA {v} (hv : v = k0_pay5 (e.W c)) {inb} {hx hm} {k : PUnit → Prog (TpuEff nD τ sig (Elt F) Λ₀ .tc) α} {Q : α → sProp 𝕄}
    (H : Inv c e 1 0 0 0 f ⊢ wpc c (k ⟨⟩) Q) :
    Inv c e 0 0 0 0 f ⊢ wpc c (Prog.lift (.store aM (Rect.unit (s := S8x4x256x256) ![0, 0, 0, 0] S1x4x256x256.size inb) v Finset.univ hx hm) >>= k) Q := by
  subst hv
  exact step_store c (m := aM) (r := Rect.unit (s := S8x4x256x256) ![0, 0, 0, 0] S1x4x256x256.size inb) (v := k0_pay5 (e.W c)) (f := e.fA) (I := setS 0) (g := GA e.W c) (hx := hx) (hm := hm)
    (fun i hi => set_access_A inb hi) (fun i hi => writeA0 c inb e.fA e.W hi) (put_own e c gA (by decide) gA_rest (own_A e c)) H
theorem step_stB {v} (hv : v = k0_pay7 (k0_pay6 (e.W c))) {inb} {hx hm} {k : PUnit → Prog (TpuEff nD τ sig (Elt F) Λ₀ .tc) α} {Q : α → sProp 𝕄}
    (H : Inv c e 2 0 0 0 f ⊢ wpc c (k ⟨⟩) Q) :
    Inv c e 1 0 0 0 f ⊢ wpc c (Prog.lift (.store bM (Rect.unit (s := S8x4x256x256) ![0, 0, 0, 0] S1x4x256x256.size inb) v Finset.univ hx hm) >>= k) Q := by
  subst hv
  exact step_store c (m := bM) (r := Rect.unit (s := S8x4x256x256) ![0, 0, 0, 0] S1x4x256x256.size inb) (v := k0_pay7 (k0_pay6 (e.W c))) (f := e.fB) (I := setS 0) (g := GB e.W c) (hx := hx) (hm := hm)
    (fun i hi => set_access_B inb hi) (fun i hi => writeB0 c inb e.fB e.W hi) (put_own e c gB (by decide) gB_rest (own_B e c)) H
theorem step_stM {v} (hv : v = k0_pay11 (k0_pay10 (k0_pay3 (e.W c)) (e.IX c))) {inb} {hx hm} {k : PUnit → Prog (TpuEff nD τ sig (Elt F) Λ₀ .tc) α} {Q : α → sProp 𝕄}
    (H : Inv c e 3 8 0 0 f ⊢ wpc c (k ⟨⟩) Q) :
    Inv c e 2 8 0 0 f ⊢ wpc c (Prog.lift (.store mM (Rect.unit (s := S8x5x512) ![0, 0, 0] S1x5x512.size inb) v Finset.univ hx hm) >>= k) Q := by
  subst hv
  exact step_store c (m := mM) (r := Rect.unit (s := S8x5x512) ![0, 0, 0] S1x5x512.size inb) (v := k0_pay11 (k0_pay10 (k0_pay3 (e.W c)) (e.IX c))) (f := e.fM) (I := setM 0) (g := GM e.W e.IX c) (hx := hx) (hm := hm)
    (fun i hi => set_access_M inb hi) (fun i hi => writeM0 c inb e.fM e.W e.IX hi) (put_own e c gM (by decide) gM_rest (own_M e c)) H

/-! ## Transfers, at the numbers the program writes -/

theorem step_sendA {h h' q : ℕ} {inb₁ inb₂ inb₃ inb₄} (hh : h < 7) (hq : q < 4) (hh' : h' = h + 1) (hs : sendIx (tA h q hh hq) = s) (hrdy : ready z r (tA h q hh hq) = true) (hw : w ≤ swIx (tA h q hh hq))
    (n : Dev nD) (hn : n = dsh c 1)
    {hsc : (chk aM h' q inb₂ : Memref sig (Dev.tc n : Thread nD τ).2.kind .vmem S1x256x256 .i8).view.ref.isScScratch = false} {hse hde}
    {hsem : DmaTarget.Typed .vmem (.dma ((cc0_scratch4.slice (Rect.unit (s := S7x4) ![h, q] S1x1.size inb₄)).squeeze S_ squeezes_S1x1_S_).sem) (.remote (Dev.tc n : Thread nD τ) (chk aM h' q inb₂) (.dma ((cc0_scratch3.slice (Rect.unit (s := S7x4) ![h, q] S1x1.size inb₃)).squeeze S_ squeezes_S1x1_S_).sem) hsc)}
    {k : PUnit → Prog (TpuEff nD τ sig (Elt F) Λ₀ .tc) α} {Q : α → sProp 𝕄} (H : Inv c e z (s + 1) r w f ⊢ wpc c (k ⟨⟩) Q) :
    Inv c e z s r w f ⊢ wpc c (Prog.lift (.enqueueDma (chk aM h q inb₁) (.remote (Dev.tc n : Thread nD τ) (chk aM h' q inb₂) (.dma ((cc0_scratch3.slice (Rect.unit (s := S7x4) ![h, q] S1x1.size inb₃)).squeeze S_ squeezes_S1x1_S_).sem) hsc)
      (.dma ((cc0_scratch4.slice (Rect.unit (s := S7x4) ![h, q] S1x1.size inb₄)).squeeze S_ squeezes_S1x1_S_).sem) hse hde hsem) >>= k) Q := by
  subst hh'
  refine step_send e c (tA h q hh hq) hs hrdy hw (chk aM h q inb₁) (chk aM (h + 1) q inb₂) n hn _ _ (semA_send' ⟨h, hh⟩ ⟨q, hq⟩) (semA_recv' ⟨h, hh⟩ ⟨q, hq⟩) (creditA_eq _ _ _) (π := fullShare.left) (fs := GA e.W c) ?_ ?_ (fun fd => ?_) H
  · rw [chkA_set]; rfl
  · rw [chkA_set]; exact BI.Entails.refl _
  · rw [pointsTo_congr (fun i hi => landA e.W c h q hh inb₁ inb₂ fd i hi), chkA_set]; exact BI.Entails.refl _
theorem step_sendB {h h' q : ℕ} {inb₁ inb₂ inb₃ inb₄} (hh : h < 7) (hq : q < 4) (hh' : h' = h + 1) (hs : sendIx (tB h q hh hq) = s) (hrdy : ready z r (tB h q hh hq) = true) (hw : w ≤ swIx (tB h q hh hq))
    (n : Dev nD) (hn : n = dsh c 7)
    {hsc : (chk bM h' q inb₂ : Memref sig (Dev.tc n : Thread nD τ).2.kind .vmem S1x256x256 .i8).view.ref.isScScratch = false} {hse hde}
    {hsem : DmaTarget.Typed .vmem (.dma ((cc0_scratch6.slice (Rect.unit (s := S7x4) ![h, q] S1x1.size inb₄)).squeeze S_ squeezes_S1x1_S_).sem) (.remote (Dev.tc n : Thread nD τ) (chk bM h' q inb₂) (.dma ((cc0_scratch5.slice (Rect.unit (s := S7x4) ![h, q] S1x1.size inb₃)).squeeze S_ squeezes_S1x1_S_).sem) hsc)}
    {k : PUnit → Prog (TpuEff nD τ sig (Elt F) Λ₀ .tc) α} {Q : α → sProp 𝕄} (H : Inv c e z (s + 1) r w f ⊢ wpc c (k ⟨⟩) Q) :
    Inv c e z s r w f ⊢ wpc c (Prog.lift (.enqueueDma (chk bM h q inb₁) (.remote (Dev.tc n : Thread nD τ) (chk bM h' q inb₂) (.dma ((cc0_scratch5.slice (Rect.unit (s := S7x4) ![h, q] S1x1.size inb₃)).squeeze S_ squeezes_S1x1_S_).sem) hsc)
      (.dma ((cc0_scratch6.slice (Rect.unit (s := S7x4) ![h, q] S1x1.size inb₄)).squeeze S_ squeezes_S1x1_S_).sem) hse hde hsem) >>= k) Q := by
  subst hh'
  refine step_send e c (tB h q hh hq) hs hrdy hw (chk bM h q inb₁) (chk bM (h + 1) q inb₂) n hn _ _ (semB_send' ⟨h, hh⟩ ⟨q, hq⟩) (semB_recv' ⟨h, hh⟩ ⟨q, hq⟩) (creditB_eq _ _ _) (π := fullShare.left) (fs := GB e.W c) ?_ ?_ (fun fd => ?_) H
  · rw [chkB_set]; rfl
  · rw [chkB_set]; exact BI.Entails.refl _
  · rw [pointsTo_congr (fun i hi => landB e.W c h q hh inb₁ inb₂ fd i hi), chkB_set]; exact BI.Entails.refl _
theorem step_sendM {k' j : ℕ} {inb₁ inb₂ inb₃ inb₄} (hk : j < 7) (hk' : k' = j + 1) (hs : sendIx (tM j hk) = s) (hrdy : ready z r (tM j hk) = true) (hw : w ≤ swIx (tM j hk))
    (n : Dev nD) (hn : n = dsh c (j + 1))
    {hsc : (slt mM k' inb₂ : Memref sig (Dev.tc n : Thread nD τ).2.kind .vmem S5x512 .f32).view.ref.isScScratch = false} {hse hde}
    {hsem : DmaTarget.Typed .vmem (.dma ((cc0_scratch8.slice (Rect.unit (s := S7) ![j] S1.size inb₄)).squeeze S_ squeezes_S1_S_).sem) (.remote (Dev.tc n : Thread nD τ) (slt mM k' inb₂) (.dma ((cc0_scratch7.slice (Rect.unit (s := S7) ![j] S1.size inb₃)).squeeze S_ squeezes_S1_S_).sem) hsc)}
    {k : PUnit → Prog (TpuEff nD τ sig (Elt F) Λ₀ .tc) α} {Q : α → sProp 𝕄} (H : Inv c e z (s + 1) r w f ⊢ wpc c (k ⟨⟩) Q) :
    Inv c e z s r w f ⊢ wpc c (Prog.lift (.enqueueDma (slt mM 0 inb₁) (.remote (Dev.tc n : Thread nD τ) (slt mM k' inb₂) (.dma ((cc0_scratch7.slice (Rect.unit (s := S7) ![j] S1.size inb₃)).squeeze S_ squeezes_S1_S_).sem) hsc)
      (.dma ((cc0_scratch8.slice (Rect.unit (s := S7) ![j] S1.size inb₄)).squeeze S_ squeezes_S1_S_).sem) hse hde hsem) >>= k) Q := by
  subst hk'
  refine step_send e c (tM j hk) hs hrdy hw (slt mM 0 inb₁) (slt mM (j + 1) inb₂) n hn _ _ (semM_send' ⟨j, hk⟩) (semM_recv' ⟨j, hk⟩) (creditM_eq _ _) (π := tokS j) (fs := GM e.W e.IX c) ?_ ?_ (fun fd => ?_) H
  · rw [sltM_set]; rfl
  · rw [sltM_set]; exact BI.Entails.refl _
  · rw [pointsTo_congr (fun i hi => landM e.W e.IX c j hk inb₁ inb₂ fd i hi), sltM_set]; exact BI.Entails.refl _

/-! ## Waits -/

/-- Waiting for an arrival is possible when everything still to be started arrives later, and useful before what passes it on. -/
def canRecv (s : ℕ) (t : T) : Bool := decide (∀ t', s ≤ sendIx t' → lvT t < lvT t') && decide (∀ t', next t = some t' → s ≤ sendIx t')

theorem step_recvA {h s' q : ℕ} {m : Memref sig .tc .vmem S1x256x256 .i8} {inb₂ inb₃} (hh : h < 7) (hq : q < 4) (hr : recvIx (tA h q hh hq) = r) (hcan : canRecv s (tA h q hh hq) = true)
    {hse hde} {k : PUnit → Prog (TpuEff nD τ sig (Elt F) Λ₀ .tc) α} {Q : α → sProp 𝕄} (H : Inv c e z s (r + 1) w f ⊢ wpc c (k ⟨⟩) Q) :
    Inv c e z s r w f ⊢ wpc c (Prog.lift (.waitDma2 ((cc0_scratch4.slice (Rect.unit (s := S7x4) ![h, q] S1x1.size inb₃)).squeeze S_ squeezes_S1x1_S_).sem m (chk aM s' q inb₂) hse hde) >>= k) Q := by
  have hc := hcan; unfold canRecv at hc; rw [Bool.and_eq_true, decide_eq_true_eq, decide_eq_true_eq] at hc
  exact step_recv e c (tA h q hh hq) hr hc.1 hc.2 _ (semA_recv' ⟨h, hh⟩ ⟨q, hq⟩) (creditA_eq _ _ _) H
theorem step_recvB {h s' q : ℕ} {m : Memref sig .tc .vmem S1x256x256 .i8} {inb₂ inb₃} (hh : h < 7) (hq : q < 4) (hr : recvIx (tB h q hh hq) = r) (hcan : canRecv s (tB h q hh hq) = true)
    {hse hde} {k : PUnit → Prog (TpuEff nD τ sig (Elt F) Λ₀ .tc) α} {Q : α → sProp 𝕄} (H : Inv c e z s (r + 1) w f ⊢ wpc c (k ⟨⟩) Q) :
    Inv c e z s r w f ⊢ wpc c (Prog.lift (.waitDma2 ((cc0_scratch6.slice (Rect.unit (s := S7x4) ![h, q] S1x1.size inb₃)).squeeze S_ squeezes_S1x1_S_).sem m (chk bM s' q inb₂) hse hde) >>= k) Q := by
  have hc := hcan; unfold canRecv at hc; rw [Bool.and_eq_true, decide_eq_true_eq, decide_eq_true_eq] at hc
  exact step_recv e c (tB h q hh hq) hr hc.1 hc.2 _ (semB_recv' ⟨h, hh⟩ ⟨q, hq⟩) (creditB_eq _ _ _) H
theorem step_recvM {j s' : ℕ} {m : Memref sig .tc .vmem S5x512 .f32} {inb₂ inb₃} (hk : j < 7) (hr : recvIx (tM j hk) = r) (hcan : canRecv s (tM j hk) = true)
    {hse hde} {k : PUnit → Prog (TpuEff nD τ sig (Elt F) Λ₀ .tc) α} {Q : α → sProp 𝕄} (H : Inv c e z s (r + 1) w f ⊢ wpc c (k ⟨⟩) Q) :
    Inv c e z s r w f ⊢ wpc c (Prog.lift (.waitDma2 ((cc0_scratch8.slice (Rect.unit (s := S7) ![j] S1.size inb₃)).squeeze S_ squeezes_S1_S_).sem m (slt mM s' inb₂) hse hde) >>= k) Q := by
  have hc := hcan; unfold canRecv at hc; rw [Bool.and_eq_true, decide_eq_true_eq, decide_eq_true_eq] at hc
  exact step_recv e c (tM j hk) hr hc.1 hc.2 _ (semM_recv' ⟨j, hk⟩) (creditM_eq _ _) H
theorem step_sentA {h s' q : ℕ} {m : Memref sig .tc .vmem S1x256x256 .i8} {inb₂ inb₃} (hh : h < 7) (hq : q < 4) (hw : swIx (tA h q hh hq) = w) (hs : sendIx (tA h q hh hq) < s)
    {hse hde} {k : PUnit → Prog (TpuEff nD τ sig (Elt F) Λ₀ .tc) α} {Q : α → sProp 𝕄} (H : Inv c e z s r (w + 1) f ⊢ wpc c (k ⟨⟩) Q) :
    Inv c e z s r w f ⊢ wpc c (Prog.lift (.waitDma2 ((cc0_scratch3.slice (Rect.unit (s := S7x4) ![h, q] S1x1.size inb₃)).squeeze S_ squeezes_S1x1_S_).sem m (chk aM s' q inb₂) hse hde) >>= k) Q :=
  step_sent e c (tA h q hh hq) hw hs _ (semA_send' ⟨h, hh⟩ ⟨q, hq⟩) (creditA_eq _ _ _) H
theorem step_sentB {h s' q : ℕ} {m : Memref sig .tc .vmem S1x256x256 .i8} {inb₂ inb₃} (hh : h < 7) (hq : q < 4) (hw : swIx (tB h q hh hq) = w) (hs : sendIx (tB h q hh hq) < s)
    {hse hde} {k : PUnit → Prog (TpuEff nD τ sig (Elt F) Λ₀ .tc) α} {Q : α → sProp 𝕄} (H : Inv c e z s r (w + 1) f ⊢ wpc c (k ⟨⟩) Q) :
    Inv c e z s r w f ⊢ wpc c (Prog.lift (.waitDma2 ((cc0_scratch5.slice (Rect.unit (s := S7x4) ![h, q] S1x1.size inb₃)).squeeze S_ squeezes_S1x1_S_).sem m (chk bM s' q inb₂) hse hde) >>= k) Q :=
  step_sent e c (tB h q hh hq) hw hs _ (semB_send' ⟨h, hh⟩ ⟨q, hq⟩) (creditB_eq _ _ _) H
theorem step_sentM {j s' : ℕ} {m : Memref sig .tc .vmem S5x512 .f32} {inb₂ inb₃} (hk : j < 7) (hw : swIx (tM j hk) = w) (hs : sendIx (tM j hk) < s)
    {hse hde} {k : PUnit → Prog (TpuEff nD τ sig (Elt F) Λ₀ .tc) α} {Q : α → sProp 𝕄} (H : Inv c e z s r (w + 1) f ⊢ wpc c (k ⟨⟩) Q) :
    Inv c e z s r w f ⊢ wpc c (Prog.lift (.waitDma2 ((cc0_scratch7.slice (Rect.unit (s := S7) ![j] S1.size inb₃)).squeeze S_ squeezes_S1_S_).sem m (slt mM s' inb₂) hse hde) >>= k) Q :=
  step_sent e c (tM j hk) hw hs _ (semM_send' ⟨j, hk⟩) (creditM_eq _ _) H

end Cert.Moe

end
-- ==== Proof.Spec.lean ====
/-
# What the body computes, slot by slot

One expert's contribution, the four of a slot, and the running sums the body keeps in the two halves of the result.
-/
module

public import proofs.«01_k».proof.Proof.Access

@[expose] public section

noncomputable section

namespace Cert.Moe
open Cert.KernelIdeal Cert.KernelIdeal.Gen

open Idealize.ShloMosaic
open Idealize.ShloMosaic.TcCoe

variable {F : FTy → Type} [FloatOps F]

/-- The device's own number, and the device whose experts slot `s` of each weight buffer holds. -/
def me (c : Dev nD) : BitVec 32 := Scalar.remsi (Scalar.divsi (Dev.word c) 1#32) 8#32
def odA (c : Dev nD) (s : ℕ) : BitVec 32 := Scalar.remsi (Scalar.addi (Scalar.subi (me c) (BitVec.ofNat 32 s)) 8#32) 8#32
def odB (c : Dev nD) (s : ℕ) : BitVec 32 := Scalar.remsi (Scalar.addi (me c) (BitVec.ofNat 32 s)) 8#32

/-- The tokens routed to expert `ew`, times its dequantised weights. -/
def term (x : FVec F S1024x256 .bf16) (ix : Vec F S1024x1 .i32) (ew : BitVec 32) (sc : Vec F S1x1x256 .f32) (wq : Vec F S1x1x256x256 .i8) : FVec F S1024x256 .f32 :=
  matmul dot_S1024x256_S256x256_S1024x256_1_0_0_1_n_n none
    (mulf x (broadcastTo S1024x256 (truncf .bf16 (sitofp .f32 (extui 32 (cmpi .eq (shapeCast S1024x1 ix shapeCasts_S1024x1_S1024x1) (broadcast S1024x1 ew)) natLt_1_32)) bitsLt_bf16_f32) broadcasts_S1024x1_S1024x256))
    (mulf (sitofp .bf16 (shapeCast S256x256 wq shapeCasts_S1x1x256x256_S256x256))
      (broadcastTo S256x256 (truncf .bf16 (shapeCast S1x256 sc shapeCasts_S1x1x256_S1x256) bitsLt_bf16_f32) broadcasts_S1x256_S256x256))
    (constant S1024x256 .f32 0x00000000#32)

variable (e : Env F) (c : Dev nD)

/-- Expert `j` of slot `s`, in each half. -/
def termA (s j : ℕ) : FVec F S1024x256 .f32 :=
  term (k0_pay8 (e.X c)) (e.IX c) (Scalar.addi (Scalar.muli (odA c s) 4#32) (BitVec.ofNat 32 j)) (ldM c e.W e.IX s (1 + j) 0) (ldA c e.W s j)
def termB (s j : ℕ) : FVec F S1024x256 .f32 :=
  term (k0_pay8 (e.X c)) (e.IX c) (Scalar.addi (Scalar.muli (odB c s) 4#32) (BitVec.ofNat 32 j)) (ldM c e.W e.IX ((8 - s) % 8) (1 + j) 256) (ldB c e.W s j)
def halfA (s : ℕ) : FVec F S1024x256 .f32 := addf (addf (addf (termA e c s 0) (termA e c s 1)) (termA e c s 2)) (termA e c s 3)
def halfB (s : ℕ) : FVec F S1024x256 .f32 := addf (addf (addf (termB e c s 0) (termB e c s 1)) (termB e c s 2)) (termB e c s 3)

/-- The two halves of the result after `n` slots. -/
def accL : ℕ → FVec F S1024x256 .f32
  | 0 => halfA e c 0
  | s + 1 => addf (shapeCast S1024x256 (accL s) shapeCasts_S1024x256_S1024x256) (halfA e c (s + 1))
def accR : ℕ → FVec F S1024x256 .f32
  | 0 => halfB e c 0
  | s + 1 => addf (shapeCast S1024x256 (accR s) shapeCasts_S1024x256_S1024x256) (halfB e c (s + 1))

end Cert.Moe

end
-- ==== Proof.Finish.lean ====
/-
# The end of a run

Every transfer waited for: the shares of each buffer meet again, the cells close.
-/
module

public import proofs.«01_k».proof.Proof.Ops
public import proofs.«01_k».proof.Proof.Spec

@[expose] public section

noncomputable section

namespace Cert.Moe
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families over the slots -/

omit [FloatOps F] in
theorem slots_first (Φ : Fin 8 → sProp 𝕄) : bigSep Finset.univ Φ = iprop(Φ 0 ∗ bigSep Finset.univ fun h : Fin 7 => Φ h.succ) := by
  rw [Fin.univ_succ, Finset.cons_eq_insert, bigSep_insert (by simp), bigSep_map]; rfl
omit [FloatOps F] in
theorem slots_last (Φ : Fin 8 → sProp 𝕄) : bigSep Finset.univ Φ = iprop(Φ 7 ∗ bigSep Finset.univ fun h : Fin 7 => Φ h.castSucc) := by
  rw [Fin.univ_castSuccEmb, Finset.cons_eq_insert, bigSep_insert, bigSep_map]
  · rfl
  · intro hm
    obtain ⟨x, -, hx⟩ := Finset.mem_map.mp hm
    have h1 : x.val = 7 := congrArg Fin.val hx
    omega

omit [FloatOps F] in
/-- Two shares of every chunk of every slot: one kept at each arrival, the other back from each departure (and, of the last
    slot, never given). -/
theorem rejoin {R Lf Fu : Fin 8 → Fin 4 → sProp 𝕄} (h : ∀ s q, iprop(R s q ∗ Lf s q) ⊢ Fu s q) :
    iprop((bigSep Finset.univ (R 0)) ∗ (bigSep Finset.univ fun hq : Fin 7 × Fin 4 => iprop(R hq.1.succ hq.2 ∗ if hq.1.val = 6 then Lf hq.1.succ hq.2 else iprop(emp)))
      ∗ bigSep Finset.univ fun hq : Fin 7 × Fin 4 => Lf hq.1.castSucc hq.2) ⊢ bigSep Finset.univ fun s => bigSep Finset.univ (Fu s) := by
  have hF : (bigSep Finset.univ fun s => bigSep Finset.univ fun q => iprop(R s q ∗ Lf s q)) ⊢ bigSep Finset.univ fun s => bigSep Finset.univ (Fu s) :=
    bigSep_mono fun s _ => bigSep_mono fun q _ => h s q
  have hR := slots_first fun s => bigSep Finset.univ (R s)
  have hL := slots_last fun s => bigSep Finset.univ (Lf s)
  have h7 : (bigSep Finset.univ fun hh : Fin 7 => bigSep Finset.univ fun q : Fin 4 => if hh.val = 6 then Lf hh.succ q else iprop(emp)) ⊢ bigSep Finset.univ (Lf 7) := by
    have e0 : bigSep Finset.univ (Lf 7) = bigSep Finset.univ fun q : Fin 4 => if (6 : Fin 7).val = 6 then Lf (6 : Fin 7).succ q else iprop(emp) :=
      bigSep_congr fun q _ => (if_pos (by decide : (6 : Fin 7).val = 6)).symm
    rw [e0]
    exact bigSep_elim (i := (6 : Fin 7)) (Finset.mem_univ _)
  have e1 : (bigSep Finset.univ fun hq : Fin 7 × Fin 4 => iprop(R hq.1.succ hq.2 ∗ if hq.1.val = 6 then Lf hq.1.succ hq.2 else iprop(emp)))
      = iprop((bigSep Finset.univ fun hh : Fin 7 => bigSep Finset.univ (R hh.succ)) ∗ bigSep Finset.univ fun hh : Fin 7 => bigSep Finset.univ fun q : Fin 4 => if hh.val = 6 then Lf hh.succ q else iprop(emp)) := by
    rw [bigSep_univ_prod, ← bigSep_sep']; exact bigSep_congr fun hh _ => bigSep_sep' _ _ _
  have e2 : (bigSep Finset.univ fun hq : Fin 7 × Fin 4 => Lf hq.1.castSucc hq.2) = bigSep Finset.univ fun hh : Fin 7 => bigSep Finset.univ (Lf hh.castSucc) :=
    bigSep_univ_prod _
  have e3 : (bigSep Finset.univ fun s => bigSep Finset.univ fun q => iprop(R s q ∗ Lf s q))
      = iprop((bigSep Finset.univ fun s => bigSep Finset.univ (R s)) ∗ bigSep Finset.univ fun s => bigSep Finset.univ (Lf s)) := by
    rw [← bigSep_sep']; exact bigSep_congr fun hh _ => bigSep_sep' _ _ _
  rw [e3, hR, hL] at hF
  rw [e1, e2]
  iintro ⟨H0, ⟨HR, H7⟩, HL⟩
  iapply hF
  isplitl [H0 HR]
  · isplitl [H0]; · iexact H0
    iexact HR
  isplitl [H7]
  · iapply h7; iexact H7
  iexact HL

/-! ## The buffers, whole -/

theorem univ_setS : (Finset.univ : Finset S8x4x256x256.Idx) = Finset.univ.biUnion fun s : Fin 8 => setS s.val := by
  ext i
  simp only [Finset.mem_univ, Finset.mem_biUnion, true_and, true_iff]
  exact ⟨i 0, mem_setS.mpr rfl⟩
theorem univ_setM : (Finset.univ : Finset S8x5x512.Idx) = Finset.univ.biUnion fun s : Fin 8 => setM s.val := by
  ext i
  simp only [Finset.mem_univ, Finset.mem_biUnion, true_and, true_iff]
  exact ⟨i 0, mem_setM.mpr rfl⟩
theorem setS_disj {s s' : ℕ} (h : s ≠ s') : Disjoint (setS s) (setS s') :=
  Finset.disjoint_left.mpr fun i hi hi' => h ((mem_setS.mp hi).symm.trans (mem_setS.mp hi'))
theorem setM_disj {s s' : ℕ} (h : s ≠ s') : Disjoint (setM s) (setM s') :=
  Finset.disjoint_left.mpr fun i hi hi' => h ((mem_setM.mp hi).symm.trans (mem_setM.mp hi'))

variable (e : Env F) (c : Dev nD)

theorem wholeA (π : PosShare TreeShare) (f : Buf (Elt F) ((c : Thread nD τ).loc cc0_scratch0)) :
    (((c : Thread nD τ).loc cc0_scratch0) ↦{π} f : sProp 𝕄) = bigSep Finset.univ fun s : Fin 8 => bigSep Finset.univ fun q : Fin 4 => ptA c s.val q.val π f := by
  rw [← bigSep_congr fun (s : Fin 8) _ => splitA c s.val π f]
  refine (congrArg (fun I => (((c : Thread nD τ).loc cc0_scratch0) ↦[I]{π} f : sProp 𝕄)) univ_setS).trans ?_
  exact pointsTo_biUnion _ _ fun s _ s' _ h => setS_disj fun h' => h (Fin.ext h')
theorem wholeB (π : PosShare TreeShare) (f : Buf (Elt F) ((c : Thread nD τ).loc cc0_scratch1)) :
    (((c : Thread nD τ).loc cc0_scratch1) ↦{π} f : sProp 𝕄) = bigSep Finset.univ fun s : Fin 8 => bigSep Finset.univ fun q : Fin 4 => ptB c s.val q.val π f := by
  rw [← bigSep_congr fun (s : Fin 8) _ => splitB c s.val π f]
  refine (congrArg (fun I => (((c : Thread nD τ).loc cc0_scratch1) ↦[I]{π} f : sProp 𝕄)) univ_setS).trans ?_
  exact pointsTo_biUnion _ _ fun s _ s' _ h => setS_disj fun h' => h (Fin.ext h')
theorem wholeM (π : PosShare TreeShare) (f : Buf (Elt F) ((c : Thread nD τ).loc cc0_scratch2)) :
    (((c : Thread nD τ).loc cc0_scratch2) ↦{π} f : sProp 𝕄) = bigSep Finset.univ fun s : Fin 8 => ptM c s.val π f := by
  refine (congrArg (fun I => (((c : Thread nD τ).loc cc0_scratch2) ↦[I]{π} f : sProp 𝕄)) univ_setM).trans ?_
  exact pointsTo_biUnion _ _ fun s _ s' _ h => setM_disj fun h' => h (Fin.ext h')

theorem backA : iprop((((c : Thread nD τ).loc cc0_scratch0) ↦[setS 0]{fullShare.right} GA e.W c)
      ∗ (bigSep Finset.univ fun hq : Fin 7 × Fin 4 => keep e.W e.IX c (.inl hq)) ∗ bigSep Finset.univ fun hq : Fin 7 × Fin 4 => sendPay e.W e.IX c (.inl hq))
    ⊢ (((c : Thread nD τ).loc cc0_scratch0) ↦{fullShare} GA e.W c : sProp 𝕄) := by
  rw [splitA, wholeA]
  exact rejoin (R := fun s q => ptA c s.val q.val fullShare.right (GA e.W c)) (Lf := fun s q => ptA c s.val q.val fullShare.left (GA e.W c))
    (Fu := fun s q => ptA c s.val q.val fullShare (GA e.W c)) fun s q => by
      have h : (ptA c s.val q.val fullShare (GA e.W c) : sProp 𝕄) ⊣⊢ iprop(ptA c s.val q.val fullShare.left (GA e.W c) ∗ ptA c s.val q.val fullShare.right (GA e.W c)) :=
        pointsTo_share (PosShare.mem_left_op_right fullShare)
      iintro ⟨H1, H2⟩
      iapply h.2
      isplitl [H2] <;> iassumption
theorem backB : iprop((((c : Thread nD τ).loc cc0_scratch1) ↦[setS 0]{fullShare.right} GB e.W c)
      ∗ (bigSep Finset.univ fun hq : Fin 7 × Fin 4 => keep e.W e.IX c (.inr (.inl hq))) ∗ bigSep Finset.univ fun hq : Fin 7 × Fin 4 => sendPay e.W e.IX c (.inr (.inl hq)))
    ⊢ (((c : Thread nD τ).loc cc0_scratch1) ↦{fullShare} GB e.W c : sProp 𝕄) := by
  rw [splitB, wholeB]
  exact rejoin (R := fun s q => ptB c s.val q.val fullShare.right (GB e.W c)) (Lf := fun s q => ptB c s.val q.val fullShare.left (GB e.W c))
    (Fu := fun s q => ptB c s.val q.val fullShare (GB e.W c)) fun s q => by
      have h : (ptB c s.val q.val fullShare (GB e.W c) : sProp 𝕄) ⊣⊢ iprop(ptB c s.val q.val fullShare.left (GB e.W c) ∗ ptB c s.val q.val fullShare.right (GB e.W c)) :=
        pointsTo_share (PosShare.mem_left_op_right fullShare)
      iintro ⟨H1, H2⟩
      iapply h.2
      isplitl [H2] <;> iassumption
theorem backM : iprop(ptM c 0 (restS 7) (GM e.W e.IX c)
      ∗ (bigSep Finset.univ fun k : Fin 7 => keep e.W e.IX c (.inr (.inr k))) ∗ bigSep Finset.univ fun k : Fin 7 => sendPay e.W e.IX c (.inr (.inr k)))
    ⊢ (((c : Thread nD τ).loc cc0_scratch2) ↦{fullShare} GM e.W e.IX c : sProp 𝕄) := by
  rw [wholeM, slots_first]
  have h := splitM c (GM e.W e.IX c)
  iintro ⟨H0, HK, HS⟩
  isplitl [H0 HS]
  · iapply (Entails.of_eq h.symm)
    isplitl [HS]; · iexact HS
    iexact H0
  iexact HK

/-! ## The cells -/

omit [FloatOps F] in
theorem bigSep_under {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have h1 : R ⊢ bigSep S fun _ => R := BI.bigSep_of_persistent S R
  have h2 : iprop((bigSep S fun _ => R) ∗ bigSep S Φ) ⊢ bigSep S Ψ := by rw [← bigSep_sep']; exact bigSep_mono h
  iintro ⟨HR, HS⟩
  iapply h2
  isplitl [HR]
  · iapply h1; iexact HR
  iexact HS

theorem close_one (k : CI) : iprop(pers e.W e.IX e.K ∗ (atPos ER (kcell (c, k)) 1 ∅ 0 : sProp 𝕄)) ⊢ |={Set.univ}=> semVal (kcell (c, k)) 0 := by
  iintro ⟨#Hp, Ha⟩
  iapply (Rounds.cell_close ER (rd e.W e.IX) (Set.mem_univ (e.K (c, k))) (fun h => h) (R := 1) (duties_later e.W e.IX (kcell (c, k))))
  isplitr
  · iapply (inv_of e.W e.IX e.K (c, k)); iexact Hp
  iexact Ha

theorem close_all : iprop(pers e.W e.IX e.K ∗ bigSep Finset.univ fun k : CI => (atPos ER (kcell (c, k)) 1 ∅ 0 : sProp 𝕄))
    ⊢ |={Set.univ}=> bigSep Finset.univ fun k : CI => (semVal (kcell (c, k)) 0 : sProp 𝕄) := by
  classical
  have h : ∀ k ∈ (Finset.univ : Finset CI), iprop(pers e.W e.IX e.K ∗ (atPos ER (kcell (c, k)) 1 ∅ 0 : sProp 𝕄)) ⊢ |={Set.univ}=> semVal (kcell (c, k)) 0 := fun k _ => close_one e c k
  exact (bigSep_under h).trans (bigSep_fupd _ _)
/-! ## All of it -/

/-- What a device ends with. -/
def Done (f : S1024x512.Idx → Elt F .f32) : sProp 𝕄 :=
  iprop((((c : Thread nD τ).loc cc0_scratch0) ↦{fullShare} GA e.W c) ∗ (((c : Thread nD τ).loc cc0_scratch1) ↦{fullShare} GB e.W c)
    ∗ (((c : Thread nD τ).loc cc0_scratch2) ↦{fullShare} GM e.W e.IX c) ∗ (bigSep Finset.univ fun k : CI => semVal (kcell (c, k)) 0)
    ∗ ins c e ∗ outP c f ∗ ∃ Ws, owes (c : Thread nD τ) 0 Ws)

theorem finish (f : S1024x512.Idx → Elt F .f32) : Inv c e 3 63 63 63 f ⊢ |={Set.univ}=> Done e c f := by
  have hV : bigSep Finset.univ (famV e.W e.IX c 63) = (iprop((bigSep Finset.univ fun t : T => atPos ER (recvCell c t) 1 ∅ 0) ∗ bigSep Finset.univ (keep e.W e.IX c)) : sProp 𝕄) := by
    rw [← bigSep_sep']; exact bigSep_congr fun t _ => by unfold famV; rw [if_pos (recvIx_lt t)]
  have hX : bigSep Finset.univ (famX e.W e.IX c 63 63) = (iprop((bigSep Finset.univ fun t : T => atPos ER (sendCell c t) 1 ∅ 0) ∗ bigSep Finset.univ (sendPay e.W e.IX c)) : sProp 𝕄) := by
    rw [← bigSep_sep']; exact bigSep_congr fun t _ => by unfold famX; rw [if_pos (swIx_lt t)]
  have hT : ∀ Φ : T → sProp 𝕄, bigSep Finset.univ Φ = iprop((bigSep Finset.univ fun hq => Φ (.inl hq)) ∗ (bigSep Finset.univ fun hq => Φ (.inr (.inl hq))) ∗ bigSep Finset.univ fun k => Φ (.inr (.inr k))) := fun Φ => by
    rw [bigSep_univ_sum, bigSep_univ_sum]; rfl
  have hC : (bigSep Finset.univ fun k : CI => (atPos ER (kcell (c, k)) 1 ∅ 0 : sProp 𝕄))
      = iprop(atPos ER (barCell c) 1 ∅ 0 ∗ (bigSep Finset.univ fun t : T => atPos ER (sendCell c t) 1 ∅ 0) ∗ bigSep Finset.univ fun t : T => atPos ER (recvCell c t) 1 ∅ 0) := by
    rw [bigSep_univ_sum, bigSep_univ_sum, Finset.univ_unique, bigSep_singleton]; rfl
  have hO : Os c 63 = 0 := Os_end c
  unfold Inv own ownA ownB ownM Done
  rw [hV, hX, hO, hT (keep e.W e.IX c), hT (sendPay e.W e.IX c), if_pos (by decide), if_pos (by decide), if_pos (by decide)]
  iintro ⟨#Hp, -, ⟨HaV, HkA, HkB, HkM⟩, ⟨HaX, HsA, HsB, HsM⟩, -, ⟨HA, HB, HM⟩, Hbar, Hins, Hout, HO⟩
  imod (close_all e c) $$ [HaV HaX Hbar] with Hz
  · isplitr; · iexact Hp
    iapply (Entails.of_eq hC.symm)
    isplitl [Hbar]; · iexact Hbar
    isplitl [HaX] <;> iassumption
  imodintro
  isplitl [HA HkA HsA]
  · iapply (backA e c)
    isplitl [HA]; · iexact HA
    isplitl [HkA] <;> iassumption
  isplitl [HB HkB HsB]
  · iapply (backB e c)
    isplitl [HB]; · iexact HB
    isplitl [HkB] <;> iassumption
  isplitl [HM HkM HsM]
  · iapply (backM e c)
    isplitl [HM]; · iexact HM
    isplitl [HkM] <;> iassumption
  isplitl [Hz]; · iexact Hz
  isplitl [Hins]; · iexact Hins
  isplitl [Hout]; · iexact Hout
  iexact HO

/-! ## The last loads and the last store -/

/-- The histogram rows of every device, as the last load reads them. -/
def hist : Vec F S8x1x128 .f32 :=
  fun i => GM e.W e.IX c (ix3 (i 0) (⟨(i 1).val, by have : (i 1).val < 1 := (i 1).isLt; show _ < 5; omega⟩ : Fin 5) (⟨(i 2).val, by have : (i 2).val < 128 := (i 2).isLt; show _ < 512; omega⟩ : Fin 512))

/-- What the run leaves in the result buffer. -/
def outV : FVec F S1024x512 .f32 :=
  k0_pay1 (k0_pay9 (e.IX c)) (k0_pay12 (k0_pay9 (e.IX c)) (iota .tc S1024x1024 32 [1] iota_S1024x1024_d1_w32) (iota .tc S1024x1024 32 [0] iota_S1024x1024_d0_w32))
    (k0_pay109 (me c) (hist e c) (iota .tc S8x1x128 32 [0] iota_S8x1x128_d0_w32) 1#32) (mkOut (accL e c 7) (accR e c 7))

variable {f : S1024x512.Idx → Elt F .f32} {α : Type}

theorem step_finish {Q : α → sProp 𝕄} {p : Prog (TpuEff nD τ sig (Elt F) Λ₀ .tc) α} (H : Done e c f ⊢ wpc c p Q) : Inv c e 3 63 63 63 f ⊢ wpc c p Q := by
  iintro HI
  imod (finish e c f) $$ HI with HD
  iapply H
  iexact HD

theorem acc_doneM : Acc ((mM.view.loc (c : Thread nD τ)) ↦[Finset.univ]{fullShare} GM e.W e.IX c) (Done e c f) := by
  unfold Done; exact acc_r <| acc_r <| acc_l (acc_self _)
theorem acc_doneO : Acc ((oM.view.loc (c : Thread nD τ)) ↦[Finset.univ]{fullShare} f) (Done e c f) := by
  unfold Done; exact acc_r <| acc_r <| acc_r <| acc_r <| acc_r <| acc_l (acc_self _)
theorem put_doneO {f' : S1024x512.Idx → Elt F .f32} :
    Done e c f ⊢ iprop(((oM.view.loc (c : Thread nD τ)) ↦[Finset.univ]{fullShare} f) ∗ (((oM.view.loc (c : Thread nD τ)) ↦[Finset.univ]{fullShare} f') -∗ Done e c f')) := by
  unfold Done outP
  iintro ⟨HA, HB, HM, Hz, Hins, Hout, HO⟩
  isplitl [Hout]; · iexact Hout
  iintro Hout
  isplitl [HA]; · iexact HA
  isplitl [HB]; · iexact HB
  isplitl [HM]; · iexact HM
  isplitl [Hz]; · iexact Hz
  isplitl [Hins]; · iexact Hins
  isplitl [Hout]; · iexact Hout
  iexact HO

theorem step_ldH {Q : α → sProp 𝕄} {inb} {hl} {k : Vec F S8x1x128 .f32 → Prog (TpuEff nD τ sig (Elt F) Λ₀ .tc) α} (H : Done e c f ⊢ wpc c (k (hist e c)) Q) :
    Done e c f ⊢ wpc c (Prog.lift (.load mM (Rect.unit (s := S8x5x512) ![0, 0, 0] S8x1x128.size inb).toLoadRect hl) >>= k) Q := by
  refine step_load c (acc_doneM e c) (Finset.subset_univ _) ?_ H
  funext i
  show GM e.W e.IX c ((Rect.unit (s := S8x5x512) ![0, 0, 0] S8x1x128.size inb).emb i) = _
  unfold hist
  congr 1
  funext a
  match a with
  | 0 => exact Fin.ext (by show 0 + 1 * (i 0).val = (i 0).val; omega)
  | 1 => exact Fin.ext (by show 0 + 1 * (i 1).val = (i 1).val; omega)
  | 2 => exact Fin.ext (by show 0 + 1 * (i 2).val = (i 2).val; omega)
theorem step_ldO {Q : α → sProp 𝕄} {inb} {hl} {k : Vec F S1024x512 .f32 → Prog (TpuEff nD τ sig (Elt F) Λ₀ .tc) α} (H : Done e c f ⊢ wpc c (k f) Q) :
    Done e c f ⊢ wpc c (Prog.lift (.load oM (Rect.unit (s := S1024x512) ![0, 0] S1024x512.size inb).toLoadRect hl) >>= k) Q :=
  step_load c (acc_doneO e c) (Finset.subset_univ _) (Memref.readAt_unit_zero (Elt F) cc0_stg3_0 (by decide) inb f) H
theorem step_stO {Q : α → sProp 𝕄} {v : FVec F S1024x512 .f32} {inb} {hx hm} {k : PUnit → Prog (TpuEff nD τ sig (Elt F) Λ₀ .tc) α} (H : Done e c v ⊢ wpc c (k ⟨⟩) Q) :
    Done e c f ⊢ wpc c (Prog.lift (.store oM (Rect.unit (s := S1024x512) ![0, 0] S1024x512.size inb) v Finset.univ hx hm) >>= k) Q := by
  refine step_store c (m := oM) (r := Rect.unit (s := S1024x512) ![0, 0] S1024x512.size inb) (v := v) (f := f) (I := Finset.univ) (g := v) (hx := hx) (hm := hm)
    (Finset.subset_univ _) (fun i _ => ?_) (put_doneO e c) H
  have he : i = (oM.access (Rect.unit (s := S1024x512) ![0, 0] S1024x512.size inb)).emb (i : S1024x512.Idx) := by
    funext a; match a with
    | 0 => exact Fin.ext (by show (i 0).val = 0 + 1 * (i 0).val; omega)
    | 1 => exact Fin.ext (by show (i 1).val = 0 + 1 * (i 1).val; omega)
  conv_lhs => rw [he]
  exact View.write_emb_of_mem _ _ (Finset.mem_univ _)

end Cert.Moe

end
-- ==== Proof.Run.lean ====
/-
# The body's run
-/
module

public import proofs.«01_k».proof.Proof.Finish

@[expose] public section

noncomputable section

namespace Cert.Moe
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (e : Env F) (c : Dev nD) {α : Type}

theorem step_signal' {n : ℕ} {f : S1024x512.Idx → Elt F .f32} (hn : n < 7) (p : Dev nD) (hp : p = dsh c (n + 1))
    {k : PUnit → Prog (TpuEff nD τ sig (Elt F) Λ₀ .tc) α} {Q : α → sProp 𝕄} (H : Pre c e (n + 1) f ⊢ wpc c (k ⟨⟩) Q) :
    Pre c e n f ⊢ wpc c (semSignalWord p barS 1#32 >>= k) Q :=
  step_signal e c ⟨n, hn⟩ rfl p hp H

theorem stL_first {a b v : FVec F S1024x256 .f32} {z s r w : ℕ} (hv : v = accL e c 0) {inb} {hx hm} {k : PUnit → Prog (TpuEff nD τ sig (Elt F) Λ₀ .tc) α}
    {Q : α → sProp 𝕄} (H : Inv c e z s r w (mkOut (accL e c 0) b) ⊢ wpc c (k ⟨⟩) Q) :
    Inv c e z s r w (mkOut a b) ⊢ wpc c (Prog.lift (.store oM (Rect.unit (s := S1024x512) ![0, 0] S1024x256.size inb) v Finset.univ hx hm) >>= k) Q :=
  step_stL e c _ hv H
theorem stR_first {a b v : FVec F S1024x256 .f32} {z s r w : ℕ} (hv : v = accR e c 0) {inb} {hx hm} {k : PUnit → Prog (TpuEff nD τ sig (Elt F) Λ₀ .tc) α}
    {Q : α → sProp 𝕄} (H : Inv c e z s r w (mkOut a (accR e c 0)) ⊢ wpc c (k ⟨⟩) Q) :
    Inv c e z s r w (mkOut a b) ⊢ wpc c (Prog.lift (.store oM (Rect.unit (s := S1024x512) ![0, 256] S1024x256.size inb) v Finset.univ hx hm) >>= k) Q :=
  step_stR e c _ hv H
theorem stL_next {n : ℕ} {b v : FVec F S1024x256 .f32} {z s r w : ℕ} (hv : v = accL e c (n + 1)) {inb} {hx hm}
    {k : PUnit → Prog (TpuEff nD τ sig (Elt F) Λ₀ .tc) α} {Q : α → sProp 𝕄} (H : Inv c e z s r w (mkOut (accL e c (n + 1)) b) ⊢ wpc c (k ⟨⟩) Q) :
    Inv c e z s r w (mkOut (accL e c n) b) ⊢ wpc c (Prog.lift (.store oM (Rect.unit (s := S1024x512) ![0, 0] S1024x256.size inb) v Finset.univ hx hm) >>= k) Q :=
  step_stL e c _ hv H
theorem stR_next {n : ℕ} {a v : FVec F S1024x256 .f32} {z s r w : ℕ} (hv : v = accR e c (n + 1)) {inb} {hx hm}
    {k : PUnit → Prog (TpuEff nD τ sig (Elt F) Λ₀ .tc) α} {Q : α → sProp 𝕄} (H : Inv c e z s r w (mkOut a (accR e c (n + 1))) ⊢ wpc c (k ⟨⟩) Q) :
    Inv c e z s r w (mkOut a (accR e c n)) ⊢ wpc c (Prog.lift (.store oM (Rect.unit (s := S1024x512) ![0, 256] S1024x256.size inb) v Finset.univ hx hm) >>= k) Q :=
  step_stR e c _ hv H

set_option maxRecDepth 20000 in
set_option maxHeartbeats 4000000 in
theorem run_body {h0 h1 h2 h3 h4 h5 h6} (a b : FVec F S1024x256 .f32) {Q : PUnit → sProp 𝕄} (H : Done e c (outV e c) ⊢ Q ⟨⟩) :
    Pre c e 0 (mkOut a b) ⊢ wpc c (cc0_body xM h0 iM h1 wM h2 oM h3 aM h4 bM h5 mM h6 cc0_scratch3 cc0_scratch4 cc0_scratch5 cc0_scratch6 cc0_scratch7 cc0_scratch8) Q := by
  rw [cc0_body_eq_skeleton]
  unfold cc0_body_skel
  repeat (first
    | with_reducible exact step_pure c h
    | (with_reducible apply seq c
       intro Q' h
       simp only [k0_part1_eq_skeleton, k0_part2_eq_skeleton, k0_part3_eq_skeleton, k0_part4_eq_skeleton, k0_part5_eq_skeleton, k0_part6_eq_skeleton,
          k0_part7_eq_skeleton, k0_part8_eq_skeleton, k0_part9_eq_skeleton, k0_part10_eq_skeleton, k0_part11_eq_skeleton, k0_part12_eq_skeleton,
          k0_part13_eq_skeleton, k0_part14_eq_skeleton, k0_part15_eq_skeleton, k0_part16_eq_skeleton, k0_part17_eq_skeleton, k0_part18_eq_skeleton,
          k0_part19_eq_skeleton, k0_part20_eq_skeleton, k0_part21_eq_skeleton, k0_part22_eq_skeleton, k0_part23_eq_skeleton, k0_part24_eq_skeleton,
          k0_part25_eq_skeleton, k0_part26_eq_skeleton, k0_part27_eq_skeleton, k0_part28_eq_skeleton, k0_part29_eq_skeleton, k0_part30_eq_skeleton,
          k0_part31_eq_skeleton, k0_part32_eq_skeleton, k0_part33_eq_skeleton, k0_part34_eq_skeleton, k0_part35_eq_skeleton, k0_part36_eq_skeleton,
          k0_part37_eq_skeleton, k0_part38_eq_skeleton, k0_part39_eq_skeleton, k0_part40_eq_skeleton, k0_part41_eq_skeleton, k0_part42_eq_skeleton,
          k0_part43_eq_skeleton, k0_part44_eq_skeleton, k0_part45_eq_skeleton, k0_part46_eq_skeleton, k0_part47_eq_skeleton, k0_part48_eq_skeleton,
          k0_part49_eq_skeleton, k0_part50_eq_skeleton, k0_part51_eq_skeleton, k0_part52_eq_skeleton, k0_part53_eq_skeleton, k0_part54_eq_skeleton,
          k0_part55_eq_skeleton, k0_part56_eq_skeleton, k0_part57_eq_skeleton, k0_part58_eq_skeleton, k0_part59_eq_skeleton, k0_part60_eq_skeleton,
          k0_part61_eq_skeleton, k0_part62_eq_skeleton, k0_part63_eq_skeleton, k0_part64_eq_skeleton, k0_part65_eq_skeleton, k0_part66_eq_skeleton,
          k0_part67_eq_skeleton, k0_part68_eq_skeleton, k0_part69_eq_skeleton, k0_part70_eq_skeleton, k0_part71_eq_skeleton, k0_part72_eq_skeleton,
          k0_part73_eq_skeleton, k0_part74_eq_skeleton, k0_part75_eq_skeleton, k0_part76_eq_skeleton, k0_part77_eq_skeleton, k0_part78_eq_skeleton,
          k0_part79_eq_skeleton, k0_part80_eq_skeleton, k0_part81_eq_skeleton, k0_part82_eq_skeleton, k0_part83_eq_skeleton, k0_part84_eq_skeleton,
          k0_part85_eq_skeleton, k0_part86_eq_skeleton, k0_part87_eq_skeleton, k0_part88_eq_skeleton, k0_part89_eq_skeleton, k0_part90_eq_skeleton,
          k0_part91_eq_skeleton, k0_part92_eq_skeleton, k0_part93_eq_skeleton, k0_part94_eq_skeleton, k0_part95_eq_skeleton, k0_part96_eq_skeleton,
          k0_part97_eq_skeleton, k0_part98_eq_skeleton, k0_part99_eq_skeleton, k0_part100_eq_skeleton, k0_part101_eq_skeleton, k0_part102_eq_skeleton,
          k0_part103_eq_skeleton, k0_part104_eq_skeleton, k0_part105_eq_skeleton, k0_part106_eq_skeleton, k0_part107_eq_skeleton, k0_part108_eq_skeleton,
          k0_part109_eq_skeleton, k0_part110_eq_skeleton, k0_part111_eq_skeleton, k0_part112_eq_skeleton, k0_part113_eq_skeleton, k0_part114_eq_skeleton]
       dsimp only [k0_part1_skel, k0_part2_skel, k0_part3_skel, k0_part4_skel, k0_part5_skel, k0_part6_skel, k0_part7_skel, k0_part8_skel, k0_part9_skel,
          k0_part10_skel, k0_part11_skel, k0_part12_skel, k0_part13_skel, k0_part14_skel, k0_part15_skel, k0_part16_skel, k0_part17_skel, k0_part18_skel,
          k0_part19_skel, k0_part20_skel, k0_part21_skel, k0_part22_skel, k0_part23_skel, k0_part24_skel, k0_part25_skel, k0_part26_skel, k0_part27_skel,
          k0_part28_skel, k0_part29_skel, k0_part30_skel, k0_part31_skel, k0_part32_skel, k0_part33_skel, k0_part34_skel, k0_part35_skel, k0_part36_skel,
          k0_part37_skel, k0_part38_skel, k0_part39_skel, k0_part40_skel, k0_part41_skel, k0_part42_skel, k0_part43_skel, k0_part44_skel, k0_part45_skel,
          k0_part46_skel, k0_part47_skel, k0_part48_skel, k0_part49_skel, k0_part50_skel, k0_part51_skel, k0_part52_skel, k0_part53_skel, k0_part54_skel,
          k0_part55_skel, k0_part56_skel, k0_part57_skel, k0_part58_skel, k0_part59_skel, k0_part60_skel, k0_part61_skel, k0_part62_skel, k0_part63_skel,
          k0_part64_skel, k0_part65_skel, k0_part66_skel, k0_part67_skel, k0_part68_skel, k0_part69_skel, k0_part70_skel, k0_part71_skel, k0_part72_skel,
          k0_part73_skel, k0_part74_skel, k0_part75_skel, k0_part76_skel, k0_part77_skel, k0_part78_skel, k0_part79_skel, k0_part80_skel, k0_part81_skel,
          k0_part82_skel, k0_part83_skel, k0_part84_skel, k0_part85_skel, k0_part86_skel, k0_part87_skel, k0_part88_skel, k0_part89_skel, k0_part90_skel,
          k0_part91_skel, k0_part92_skel, k0_part93_skel, k0_part94_skel, k0_part95_skel, k0_part96_skel, k0_part97_skel, k0_part98_skel, k0_part99_skel,
          k0_part100_skel, k0_part101_skel, k0_part102_skel, k0_part103_skel, k0_part104_skel, k0_part105_skel, k0_part106_skel, k0_part107_skel,
          k0_part108_skel, k0_part109_skel, k0_part110_skel, k0_part111_skel, k0_part112_skel, k0_part113_skel, k0_part114_skel, Nat.reduceAdd])
    | with_reducible refine step_device c ?_
    | (with_reducible refine step_signal' e c ?_ _ ?_ ?_
       · decide
       · apply Fin.ext
         simp only [k0_dev1_eq, k0_dev2_eq, k0_dev3_eq, k0_dev4_eq, k0_dev5_eq, k0_dev6_eq, k0_dev7_eq, dsh_val, Nat.reduceAdd]
       skip)
    | with_reducible refine step_barrier e c ?_
    | with_reducible refine step_ldI e c ?_
    | (with_reducible refine step_ldA e c ?_ ?_
       · decide
       skip)
    | (with_reducible refine step_ldB e c ?_ ?_
       · decide
       skip)
    | (with_reducible refine step_ldM e c ?_ ?_
       · decide
       skip)
    | (with_reducible refine step_sendA e c ?_ ?_ ?_ ?_ ?_ ?_ _ ?_ ?_
       · decide
       · decide
       · rfl
       · decide
       · decide
       · decide
       · apply Fin.ext
         simp only [k0_dev8_eq, k0_dev9_eq, k0_dev10_eq, k0_dev11_eq, k0_dev12_eq, k0_dev13_eq, k0_dev14_eq, k0_dev15_eq, k0_dev16_eq, k0_dev17_eq, k0_dev18_eq,
          k0_dev19_eq, k0_dev20_eq, k0_dev21_eq, k0_dev22_eq, k0_dev23_eq, k0_dev24_eq, k0_dev25_eq, k0_dev26_eq, k0_dev27_eq, k0_dev28_eq, k0_dev29_eq,
          k0_dev30_eq, k0_dev31_eq, k0_dev32_eq, k0_dev33_eq, k0_dev34_eq, k0_dev35_eq, k0_dev36_eq, k0_dev37_eq, k0_dev38_eq, k0_dev39_eq, k0_dev40_eq,
          k0_dev41_eq, k0_dev42_eq, k0_dev43_eq, k0_dev44_eq, k0_dev45_eq, k0_dev46_eq, k0_dev47_eq, k0_dev48_eq, k0_dev49_eq, k0_dev50_eq, k0_dev51_eq,
          k0_dev52_eq, k0_dev53_eq, k0_dev54_eq, k0_dev55_eq, k0_dev56_eq, k0_dev57_eq, k0_dev58_eq, k0_dev59_eq, k0_dev60_eq, k0_dev61_eq, k0_dev62_eq,
          k0_dev63_eq, k0_dev64_eq, k0_dev65_eq, k0_dev66_eq, k0_dev67_eq, k0_dev68_eq, k0_dev69_eq, k0_dev70_eq, dsh_val, Nat.reduceAdd]
       skip)
    | (with_reducible refine step_sendB e c ?_ ?_ ?_ ?_ ?_ ?_ _ ?_ ?_
       · decide
       · decide
       · rfl
       · decide
       · decide
       · decide
       · apply Fin.ext
         simp only [k0_dev8_eq, k0_dev9_eq, k0_dev10_eq, k0_dev11_eq, k0_dev12_eq, k0_dev13_eq, k0_dev14_eq, k0_dev15_eq, k0_dev16_eq, k0_dev17_eq, k0_dev18_eq,
          k0_dev19_eq, k0_dev20_eq, k0_dev21_eq, k0_dev22_eq, k0_dev23_eq, k0_dev24_eq, k0_dev25_eq, k0_dev26_eq, k0_dev27_eq, k0_dev28_eq, k0_dev29_eq,
          k0_dev30_eq, k0_dev31_eq, k0_dev32_eq, k0_dev33_eq, k0_dev34_eq, k0_dev35_eq, k0_dev36_eq, k0_dev37_eq, k0_dev38_eq, k0_dev39_eq, k0_dev40_eq,
          k0_dev41_eq, k0_dev42_eq, k0_dev43_eq, k0_dev44_eq, k0_dev45_eq, k0_dev46_eq, k0_dev47_eq, k0_dev48_eq, k0_dev49_eq, k0_dev50_eq, k0_dev51_eq,
          k0_dev52_eq, k0_dev53_eq, k0_dev54_eq, k0_dev55_eq, k0_dev56_eq, k0_dev57_eq, k0_dev58_eq, k0_dev59_eq, k0_dev60_eq, k0_dev61_eq, k0_dev62_eq,
          k0_dev63_eq, k0_dev64_eq, k0_dev65_eq, k0_dev66_eq, k0_dev67_eq, k0_dev68_eq, k0_dev69_eq, k0_dev70_eq, dsh_val, Nat.reduceAdd]
       skip)
    | (with_reducible refine step_sendM e c ?_ ?_ ?_ ?_ ?_ _ ?_ ?_
       · decide
       · rfl
       · decide
       · decide
       · decide
       · apply Fin.ext
         simp only [k0_dev8_eq, k0_dev9_eq, k0_dev10_eq, k0_dev11_eq, k0_dev12_eq, k0_dev13_eq, k0_dev14_eq, k0_dev15_eq, k0_dev16_eq, k0_dev17_eq, k0_dev18_eq,
          k0_dev19_eq, k0_dev20_eq, k0_dev21_eq, k0_dev22_eq, k0_dev23_eq, k0_dev24_eq, k0_dev25_eq, k0_dev26_eq, k0_dev27_eq, k0_dev28_eq, k0_dev29_eq,
          k0_dev30_eq, k0_dev31_eq, k0_dev32_eq, k0_dev33_eq, k0_dev34_eq, k0_dev35_eq, k0_dev36_eq, k0_dev37_eq, k0_dev38_eq, k0_dev39_eq, k0_dev40_eq,
          k0_dev41_eq, k0_dev42_eq, k0_dev43_eq, k0_dev44_eq, k0_dev45_eq, k0_dev46_eq, k0_dev47_eq, k0_dev48_eq, k0_dev49_eq, k0_dev50_eq, k0_dev51_eq,
          k0_dev52_eq, k0_dev53_eq, k0_dev54_eq, k0_dev55_eq, k0_dev56_eq, k0_dev57_eq, k0_dev58_eq, k0_dev59_eq, k0_dev60_eq, k0_dev61_eq, k0_dev62_eq,
          k0_dev63_eq, k0_dev64_eq, k0_dev65_eq, k0_dev66_eq, k0_dev67_eq, k0_dev68_eq, k0_dev69_eq, k0_dev70_eq, dsh_val, Nat.reduceAdd]
       skip)
    | (with_reducible refine step_recvA e c ?_ ?_ ?_ ?_ ?_
       · decide
       · decide
       · decide
       · decide
       skip)
    | (with_reducible refine step_sentA e c ?_ ?_ ?_ ?_ ?_
       · decide
       · decide
       · decide
       · decide
       skip)
    | (with_reducible refine step_recvB e c ?_ ?_ ?_ ?_ ?_
       · decide
       · decide
       · decide
       · decide
       skip)
    | (with_reducible refine step_sentB e c ?_ ?_ ?_ ?_ ?_
       · decide
       · decide
       · decide
       · decide
       skip)
    | (with_reducible refine step_recvM e c ?_ ?_ ?_ ?_
       · decide
       · decide
       · decide
       skip)
    | (with_reducible refine step_sentM e c ?_ ?_ ?_ ?_
       · decide
       · decide
       · decide
       skip)
    | with_reducible refine step_ldL e c ?_
    | with_reducible refine step_ldR e c ?_
    | with_reducible refine step_ldW e c ?_
    | with_reducible refine step_ldX e c ?_
    | (with_reducible refine step_ldA0 e c ?_ (fun _ => ?_)
       · decide
       skip)
    | (with_reducible refine step_ldB0 e c ?_ (fun _ => ?_)
       · decide
       skip)
    | (with_reducible refine step_ldM0 e c ?_ _ (Eq.refl _) ?_
       · decide
       skip)
    | (with_reducible refine step_stA e c ?_ ?_
       · rfl
       skip)
    | (with_reducible refine step_stB e c ?_ ?_
       · rfl
       skip)
    | (with_reducible refine step_stM e c ?_ ?_
       · rfl
       skip)
    | (with_reducible refine stL_next e c ?_ ?_
       · rfl
       skip)
    | (with_reducible refine stR_next e c ?_ ?_
       · rfl
       skip)
    | (with_reducible refine stL_first e c ?_ ?_
       · rfl
       skip)
    | (with_reducible refine stR_first e c ?_ ?_
       · rfl
       skip)
    | with_reducible refine step_ldH e c ?_
    | with_reducible refine step_ldO e c ?_
    | with_reducible refine step_stO e c ?_
    | with_reducible refine step_finish e c ?_
    | dsimp only [Nat.reduceAdd])
  exact step_pure c H

end Cert.Moe

end
-- ==== Proof.Begin.lean ====
/-
# From the launch to the body

The proof data of the pallas_call: what its windows hold before and after, what the body starts from and leaves, and
that the body's run meets it.
-/
module

public import proofs.«01_k».proof.Proof.Run
public import proofs.«01_k».proof.Proof.Gen.KernelIdeal.Points

@[expose] public section

noncomputable section

namespace Cert.Moe
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What the launch finds -/

variable (m : (ℓ : Loc nD τ sig) → Buf (Elt F) ℓ) (ρ : Dev nD → PrngReg)

/-- The launch's memory: `m`, every counter at zero. -/
def s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The operands as staged. -/
def xOf (c : Dev nD) : Vec F S1024x256 .bf16 := (win0_0.blk t₀).view.read (Elt F) (m (win0_0.arr.view.loc (c : Thread nD τ)))
def iOf (c : Dev nD) : Vec F S1024x1 .i32 := (win0_1.blk t₀).view.read (Elt F) (m (win0_1.arr.view.loc (c : Thread nD τ)))
def wOf (c : Dev nD) : Vec F S4x256x512 .bf16 := (win0_2.blk t₀).view.read (Elt F) (m (win0_2.arr.view.loc (c : Thread nD τ)))

/-- The run of memory `m`, its cells' invariants named by `K`, the scratch buffers starting at `fA`, `fB`, `fM`. -/
def envOf (K : Dev nD × CI → ℕ) (fA fB : S8x4x256x256.Idx → Elt F .i8) (fM : S8x5x512.Idx → Elt F .f32) : Env F where
  X := xOf m
  W := wOf m
  IX := iOf m
  K := K
  fA := fA
  fB := fB
  fM := fM
/-- One such run, for the result, which depends on the operands alone. -/
def env₀ : Env F := envOf m (fun _ => 0) (m (((0 : Dev nD) : Thread nD τ).loc cc0_scratch0)) (m (((0 : Dev nD) : Thread nD τ).loc cc0_scratch1)) (m (((0 : Dev nD) : Thread nD τ).loc cc0_scratch2))
def outAt (c : Dev nD) : FVec F S1024x512 .f32 := outV (env₀ m) c
theorem outV_env (K : Dev nD × CI → ℕ) (fA fB : S8x4x256x256.Idx → Elt F .i8) (fM : S8x5x512.Idx → Elt F .f32) (c : Dev nD) :
    outV (envOf m K fA fB fM) c = outAt m c := rfl

/-! ## What the body starts from and leaves -/

/-- All a device owes at the start. -/
def O₀ (c : Dev nD) : CellTallies nD τ sig Unit := Os c 0 + Ob c 0

/-- The positions of a device's own cells and the rights to the duties it pays. -/
def linear (c : Dev nD) : sProp 𝕄 :=
  iprop((bigSep Finset.univ fun k : CI => atPos ER (kcell (c, k)) 0 ∅ 0)
    ∗ (bigSep Finset.univ fun d : Fin 7 => dutyTok ER (barCell (dsh c (d.val + 1))) 0 d)
    ∗ (bigSep Finset.univ fun t : T => dutyTok ER (sendCell c t) 0 0) ∗ bigSep Finset.univ fun t : T => dutyTok ER (recvCell (peer c t) t) 0 0)
def ghost (c : Dev nD) : sProp 𝕄 := iprop(∃ K, records (wOf m) (iOf m) K ∗ linear c)
def start (c : Dev nD) : sProp 𝕄 :=
  iprop(ghost m c ∗ (cred (tallyAt (barCell c) () 7) ∗ bigSep Finset.univ fun t : T => cred (tallyAt (recvCell c t) () (amt t))) ∗ levAts L lv)
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
def Φ₀ (c : Dev nD) : sProp 𝕄 := iprop(start m c ∗ scr c)
def Φ₁ (c : Dev nD) : sProp 𝕄 := iprop(scr c ∗ bigSep Finset.univ fun k : CI => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xOf m c
    | ⟨1, _⟩ => iOf m c
    | ⟨2, _⟩ => wOf m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The scratch buffers, dealt -/

omit [FloatOps F] in
theorem sum_T (Φ : T → sProp 𝕄) : bigSep Finset.univ Φ
    = iprop((bigSep Finset.univ fun hq => Φ (.inl hq)) ∗ (bigSep Finset.univ fun hq => Φ (.inr (.inl hq))) ∗ bigSep Finset.univ fun k => Φ (.inr (.inr k))) := by
  rw [bigSep_univ_sum, bigSep_univ_sum]; rfl
omit [FloatOps F] in
theorem sum_CI (Φ : CI → sProp 𝕄) : bigSep Finset.univ Φ
    = iprop(Φ (.inl ()) ∗ (bigSep Finset.univ fun t => Φ (.inr (.inl t))) ∗ bigSep Finset.univ fun t => Φ (.inr (.inr t))) := by
  rw [bigSep_univ_sum, bigSep_univ_sum, Finset.univ_unique, bigSep_singleton]; rfl

variable (c : Dev nD)

/-- Every place of the scratch buffers but the own slots is one some transfer writes. -/
theorem deal (e : Env F) : iprop((((c : Thread nD τ).loc cc0_scratch0) ↦{fullShare} e.fA) ∗ (((c : Thread nD τ).loc cc0_scratch1) ↦{fullShare} e.fB)
      ∗ (((c : Thread nD τ).loc cc0_scratch2) ↦{fullShare} e.fM))
    ⊢ (iprop(own c e 0 ∗ bigSep Finset.univ fun t : T => dstAny c t) : sProp 𝕄) := by
  have hA : (bigSep Finset.univ fun h : Fin 7 => bigSep Finset.univ fun q : Fin 4 => ptA c h.succ.val q.val fullShare e.fA)
      ⊢ (bigSep Finset.univ fun hq : Fin 7 × Fin 4 => dstAny c (.inl hq) : sProp 𝕄) := by
    rw [bigSep_univ_prod]
    exact bigSep_mono fun h _ => bigSep_mono fun q _ => show _ ⊢ iprop(∃ f, ptA c (h.val + 1) q.val fullShare f) from by
      iintro H; iexists e.fA; iexact H
  have hB : (bigSep Finset.univ fun h : Fin 7 => bigSep Finset.univ fun q : Fin 4 => ptB c h.succ.val q.val fullShare e.fB)
      ⊢ (bigSep Finset.univ fun hq : Fin 7 × Fin 4 => dstAny c (.inr (.inl hq)) : sProp 𝕄) := by
    rw [bigSep_univ_prod]
    exact bigSep_mono fun h _ => bigSep_mono fun q _ => show _ ⊢ iprop(∃ f, ptB c (h.val + 1) q.val fullShare f) from by
      iintro H; iexists e.fB; iexact H
  have hM : (bigSep Finset.univ fun k : Fin 7 => ptM c k.succ.val fullShare e.fM) ⊢ (bigSep Finset.univ fun k : Fin 7 => dstAny c (.inr (.inr k)) : sProp 𝕄) :=
    bigSep_mono fun k _ => show _ ⊢ iprop(∃ f, ptM c (k.val + 1) fullShare f) from by
      iintro H; iexists e.fM; iexact H
  have h0 : own c e 0 = (iprop((((c : Thread nD τ).loc cc0_scratch0) ↦[setS 0]{fullShare} e.fA) ∗ (((c : Thread nD τ).loc cc0_scratch1) ↦[setS 0]{fullShare} e.fB) ∗ ptM c 0 fullShare e.fM) : sProp 𝕄) := by
    unfold own ownA ownB ownM; rw [if_neg (by decide), if_neg (by decide), if_neg (by decide)]
  rw [wholeA, wholeB, wholeM, slots_first, slots_first, slots_first, h0, splitA, splitB, sum_T]
  iintro ⟨⟨HA0, HA⟩, ⟨HB0, HB⟩, ⟨HM0, HM⟩⟩
  isplitl [HA0 HB0 HM0]
  · isplitl [HA0]; · iexact HA0
    isplitl [HB0]; · iexact HB0
    iexact HM0
  isplitl [HA]; · iapply hA; iexact HA
  isplitl [HB]; · iapply hB; iexact HB
  iapply hM; iexact HM

/-- Each of them goes to one of the seven barrier units the device sends. -/
theorem deal_bar : (bigSep Finset.univ fun t : T => dstAny (F := F) c t) ⊢ (bigSep Finset.univ fun d : Fin 7 => barPay (dsh c (d.val + 1)) d : sProp 𝕄) := by
  have h : (bigSep Finset.univ fun d : Fin 7 => barPay (F := F) (dsh c (d.val + 1)) d)
      = bigSep Finset.univ fun t : T => bigSep Finset.univ fun d : Fin 7 => if off t = 7 - d.val then dstAny c t else iprop(emp) := by
    rw [bigSep_univ_comm]
    refine bigSep_congr fun d _ => ?_
    unfold barPay
    rw [show dsh (dsh c (d.val + 1)) (7 - d.val) = c from by rw [dsh_dsh, show d.val + 1 + (7 - d.val) = 8 from by omega]; exact dsh_eight c]
  rw [h]
  refine bigSep_mono fun t _ => ?_
  have h1 := off_pos t
  have h2 := off_lt t
  rw [bigSep_univ_at _ (⟨7 - off t, by omega⟩ : Fin 7)]
  have h3 : off t = 7 - (⟨7 - off t, by omega⟩ : Fin 7).val := by show off t = 7 - (7 - off t); omega
  have h4 : (bigSep (Finset.univ.erase (⟨7 - off t, by omega⟩ : Fin 7)) fun d : Fin 7 => if off t = 7 - d.val then dstAny (F := F) c t else iprop(emp))
      = bigSep (Finset.univ.erase (⟨7 - off t, by omega⟩ : Fin 7)) fun _ => iprop(emp) :=
    bigSep_congr fun d hd => if_neg fun h5 => Finset.ne_of_mem_erase hd (Fin.ext (by show d.val = 7 - off t; omega))
  rw [if_pos h3, h4]
  have h5 : (dstAny (F := F) c t) ⊢ iprop(dstAny c t ∗ bigSep (Finset.univ.erase (⟨7 - off t, by omega⟩ : Fin 7)) fun _ => iprop(emp)) := by
    iintro H
    isplitl [H]; · iexact H
    iapply (Entails.of_eq (bigSep_emp_const _).symm)
    iempintro
  exact h5

/-! ## The body obligation -/

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost : sProp 𝕄 :=
  iprop(Φ₁ c ∗ (dats m ρ 0 c).owesAt () t₀.succ ∗ stg c cc0_stg0_0 (xOf m c) ∗ stg c cc0_stg1_0 (iOf m c) ∗ stg c cc0_stg2_0 (wOf m c) ∗ stg c cc0_stg3_0 (outAt m c))

theorem done_post (K : Dev nD × CI → ℕ) (fA fB : S8x4x256x256.Idx → Elt F .i8) (fM : S8x5x512.Idx → Elt F .f32) :
    Done (envOf m K fA fB fM) c (outV (envOf m K fA fB fM) c) ⊢ bodyPost m ρ c := by
  rw [outV_env]
  unfold Done bodyPost Φ₁ scr ins outP Dat.owesAt
  rw [show (dats m ρ 0 c).owed t₀.succ = 0 from rfl]
  iintro ⟨HA, HB, HM, Hz, ⟨Hx, Hi, Hw⟩, Hout, ⟨%Ws, HO⟩⟩
  isplitl [HA HB HM Hz]
  · isplitl [HA HB HM]
    · isplitl [HA]; · iexists _; iexact HA
      isplitl [HB]; · iexists _; iexact HB
      iexists _; iexact HM
    iexact Hz
  isplitl [HO]
  · iexists Ws
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Hout

theorem pre_intro (K : Dev nD × CI → ℕ) (fA fB : S8x4x256x256.Idx → Elt F .i8) (fM : S8x5x512.Idx → Elt F .f32) (Ws : Waits sig Unit) (f : S1024x512.Idx → Elt F .f32) :
    iprop((records (wOf m) (iOf m) K ∗ linear c) ∗ (cred (tallyAt (barCell c) () 7) ∗ bigSep Finset.univ fun t : T => cred (tallyAt (recvCell c t) () (amt t))) ∗ levAts L lv
        ∗ ((((c : Thread nD τ).loc cc0_scratch0) ↦{fullShare} fA) ∗ (((c : Thread nD τ).loc cc0_scratch1) ↦{fullShare} fB) ∗ (((c : Thread nD τ).loc cc0_scratch2) ↦{fullShare} fM))
        ∗ ins c (envOf m K fA fB fM) ∗ outP c f ∗ owes (c : Thread nD τ) (O₀ c) Ws)
      ⊢ (Pre c (envOf m K fA fB fM) 0 f : sProp 𝕄) := by
  have hd : (bigSep Finset.univ fun d : Fin 7 => if d.val < 0 then iprop(emp) else iprop(dutyTok ER (barCell (dsh c (d.val + 1))) 0 d ∗ barPay (dsh c (d.val + 1)) d))
      = (iprop((bigSep Finset.univ fun d : Fin 7 => dutyTok ER (barCell (dsh c (d.val + 1))) 0 d) ∗ bigSep Finset.univ fun d : Fin 7 => barPay (dsh c (d.val + 1)) d) : sProp 𝕄) := by
    rw [← bigSep_sep']; exact bigSep_congr fun d _ => if_neg (Nat.not_lt_zero _)
  have hV : bigSep Finset.univ (famV (wOf m) (iOf m) c 0)
      = (iprop((bigSep Finset.univ fun t : T => cred (tallyAt (recvCell c t) () (amt t))) ∗ bigSep Finset.univ fun t : T => atPos ER (recvCell c t) 0 ∅ 0) : sProp 𝕄) := by
    rw [← bigSep_sep']; exact bigSep_congr fun t _ => by unfold famV; exact if_neg (Nat.not_lt_zero _)
  have hX : bigSep Finset.univ (famX (wOf m) (iOf m) c 0 0) = (bigSep Finset.univ fun t : T => atPos ER (sendCell c t) 0 ∅ 0 : sProp 𝕄) :=
    bigSep_congr fun t _ => by unfold famX; rw [if_neg (Nat.not_lt_zero _), if_neg (Nat.not_lt_zero _)]
  have hs : (bigSep Finset.univ fun t : T => iprop(dutyTok ER (sendCell c t) 0 0 ∗ dutyTok ER (recvCell (peer c t) t) 0 0))
      = (iprop((bigSep Finset.univ fun t : T => dutyTok ER (sendCell c t) 0 0) ∗ bigSep Finset.univ fun t : T => dutyTok ER (recvCell (peer c t) t) 0 0) : sProp 𝕄) := bigSep_sep' _ _ _
  have hp : (bigSep Finset.univ fun k : CI => (atPos ER (kcell (c, k)) 0 ∅ 0 : sProp 𝕄))
      = iprop(atPos ER (barCell c) 0 ∅ 0 ∗ (bigSep Finset.univ fun t : T => atPos ER (sendCell c t) 0 ∅ 0) ∗ bigSep Finset.univ fun t : T => atPos ER (recvCell c t) 0 ∅ 0) := sum_CI _
  have hdl : iprop((((c : Thread nD τ).loc cc0_scratch0) ↦{fullShare} fA) ∗ (((c : Thread nD τ).loc cc0_scratch1) ↦{fullShare} fB)
      ∗ (((c : Thread nD τ).loc cc0_scratch2) ↦{fullShare} fM)) ⊢ (iprop(own c (envOf m K fA fB fM) 0 ∗ bigSep Finset.univ fun t : T => dstAny c t) : sProp 𝕄) := deal c (envOf m K fA fB fM)
  unfold Pre linear pers
  rw [hd, hs, hp, show famV (envOf m K fA fB fM).W (envOf m K fA fB fM).IX c 0 = famV (wOf m) (iOf m) c 0 from rfl,
    show famX (envOf m K fA fB fM).W (envOf m K fA fB fM).IX c 0 0 = famX (wOf m) (iOf m) c 0 0 from rfl, hV, hX]
  iintro ⟨⟨Hr, ⟨Hbar, Hsend, Hrecv⟩, Htb, Hts, Htr⟩, ⟨Hcb, Hcr⟩, Hlev, Hscr, Hins, Hout, HO⟩
  ihave Hd := hdl $$ Hscr
  icases Hd with ⟨Hown, Hdst⟩
  isplitl [Hr Hlev]
  · isplitl [Hr]; · iexact Hr
    iexact Hlev
  isplitl [Htb Hdst]
  · isplitl [Htb]; · iexact Htb
    iapply (deal_bar c); iexact Hdst
  isplitl [Hcb Hbar]
  · isplitl [Hcb]; · iexact Hcb
    iexact Hbar
  isplitl [Hts Htr]
  · isplitl [Hts]; · iexact Hts
    iexact Htr
  isplitl [Hcr Hrecv]
  · isplitl [Hcr]; · iexact Hcr
    iexact Hrecv
  isplitl [Hsend]; · iexact Hsend
  isplitl [Hown]; · iexact Hown
  isplitl [Hins]; · iexact Hins
  isplitl [Hout]; · iexact Hout
  iexists Ws; iexact HO

theorem before_0 (d) : (dats m ρ 0 c).before (0 : Fin 4) t₀ d = xOf m c := by
  unfold Dat.before; rw [fetch0_0 t₀]; rfl
theorem before_1 (d) : (dats m ρ 0 c).before (1 : Fin 4) t₀ d = iOf m c := by
  unfold Dat.before; rw [fetch0_1 t₀]; rfl
theorem before_2 (d) : (dats m ρ 0 c).before (2 : Fin 4) t₀ d = wOf m c := by
  unfold Dat.before; rw [fetch0_2 t₀]; rfl

set_option maxRecDepth 4000 in
theorem sound {h0 h1 h2 h3 h4 h5 h6} : bodyPre m ρ c ⊢ wpc c (cc0_body xM h0 iM h1 wM h2 oM h3 aM h4 bM h5 mM h6 cc0_scratch3 cc0_scratch4 cc0_scratch5 cc0_scratch6 cc0_scratch7 cc0_scratch8) (fun _ => bodyPost m ρ c) := by
  unfold bodyPre Φ₀ start ghost scr Dat.owesAt
  simp only [before_0, before_1, before_2]
  rw [show (dats m ρ 0 c).owed t₀.castSucc = O₀ c from rfl]
  iintro ⟨⟨⟨⟨%K, Hg⟩, Hcr, Hlev⟩, ⟨%fA, HA⟩, ⟨%fB, HB⟩, ⟨%fM, HM⟩⟩, ⟨%Ws, -, HO⟩, ⟨%d0, %f0, %hf0, Hx⟩, ⟨%d1, %f1, %hf1, Hi⟩, ⟨%d2, %f2, %hf2, Hw⟩, ⟨%d3, %f3, -, Hout⟩⟩
  subst hf0 hf1 hf2
  iapply (run_body (envOf m K fA fB fM) c _ _ (done_post m ρ c K fA fB fM))
  iapply (pre_intro m c K fA fB fM Ws _)
  isplitl [Hg]; · iexact Hg
  isplitl [Hcr]; · iexact Hcr
  isplitl [Hlev]; · iexact Hlev
  isplitl [HA HB HM]
  · isplitl [HA]; · iexact HA
    isplitl [HB]; · iexact HB
    iexact HM
  isplitl [Hx Hi Hw]
  · unfold ins
    isplitl [Hx]; · iexact Hx
    isplitl [Hi]; · iexact Hi
    iexact Hw
  isplitl [Hout]
  · rw [mkOut_self f3]; unfold outP; iexact Hout
  iexact HO

set_option maxRecDepth 4000 in
theorem body_obligation : BodyObligation (dats (F := F) m ρ 0 c) (defs₀ (F := F)) 𝒱₀ () Set.univ := fun t => by
  rw [fin_N t]
  rw [show ∀ Φ : Fin cfg0.W → sProp 𝕄, bigSep Finset.univ Φ = iprop(Φ (0 : Fin 4) ∗ Φ (1 : Fin 4) ∗ Φ (2 : Fin 4) ∗ Φ (3 : Fin 4)) from bigSep_W0,
    show ∀ Φ : Fin cfg0.W → sProp 𝕄, bigSep Finset.univ Φ = iprop(Φ (0 : Fin 4) ∗ Φ (1 : Fin 4) ∗ Φ (2 : Fin 4) ∗ Φ (3 : Fin 4)) from bigSep_W0]
  simp only [owns_whole_eq]
  have hb : defs₀ (F := F) .tc 0 (t₀, cfg0.slots t₀) = cc0_body xM (Memref.isWhole_whole _) iM (Memref.isWhole_whole _) wM (Memref.isWhole_whole _) oM (Memref.isWhole_whole _)
    aM (Memref.isWhole_whole _) bM (Memref.isWhole_whole _) mM (Memref.isWhole_whole _) cc0_scratch3 cc0_scratch4 cc0_scratch5 cc0_scratch6 cc0_scratch7 cc0_scratch8 := rfl
  rw [hb]
  have h := sound m ρ c (h0 := Memref.isWhole_whole _) (h1 := Memref.isWhole_whole _) (h2 := Memref.isWhole_whole _) (h3 := Memref.isWhole_whole _)
    (h4 := Memref.isWhole_whole _) (h5 := Memref.isWhole_whole _) (h6 := Memref.isWhole_whole _)
  unfold bodyPre bodyPost at h
  have e0 : (dats m ρ 0 c).Φ t₀.castSucc = Φ₀ m c := rfl
  have e1 : (dats m ρ 0 c).Φ t₀.succ = Φ₁ c := rfl
  have a0 : (dats m ρ 0 c).after (0 : Fin 4) t₀ = xOf m c := rfl
  have a1 : (dats m ρ 0 c).after (1 : Fin 4) t₀ = iOf m c := rfl
  have a2 : (dats m ρ 0 c).after (2 : Fin 4) t₀ = wOf m c := rfl
  have a3 : (dats m ρ 0 c).after (3 : Fin 4) t₀ = outAt m c := rfl
  rw [e0, e1, a0, a1, a2, a3]
  with_reducible exact h

end Cert.Moe

end
-- ==== Proof.Launch.lean ====
/-
# The launch

The cells' ghost state is made at the start, each device keeping its own positions and being dealt the rights to the
duties it pays on the others; what each device owes at the start is what the others may wait for.
-/
module

public import proofs.«01_k».proof.Proof.Begin
public import Idealize.ShloMosaic.Lib.Pipeline.CollectiveSegs

@[expose] public section

noncomputable section

namespace Cert.Moe
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores -/

/-- The kernel's own semaphores: every transfer's two. -/
def osem : T ⊕ T → SemLoc sig | .inl t => .dma (sendD t) | .inr t => .dma (recvD t)

theorem osem_scoped : ∀ k, (osem k).isScoped .tc = true := by decide +kernel
theorem stage_low : ∀ (w : Fin 4) s, ((cfg0.spec w).sem s).val < 4 := by decide +kernel
theorem osem_ge (k : T ⊕ T) : ∃ d : DmaSem sig, osem k = .dma d ∧ 4 ≤ d.val := by
  rcases k with t | t
  · exact ⟨sendD t, rfl, (no_ge t).1⟩
  · exact ⟨recvD t, rfl, (no_ge t).2⟩
theorem osem_inj : Function.Injective osem := by
  rintro (t | t) (t' | t') h
  · injection h with h; rw [sendD_inj h]
  · exact absurd h (send_ne_recv t t')
  · exact absurd h.symm (send_ne_recv t' t)
  · injection h with h; rw [recvD_inj h]
theorem ownSemFacts : Pipeline.OwnSemFacts cfg0.spec osem where
  isScoped := osem_scoped
  inj := osem_inj
  disj k w s h := by
    obtain ⟨d, hd, hge⟩ := osem_ge k
    rw [hd] at h
    injection h with h
    have := stage_low w s
    rw [← h] at this
    omega

theorem csem_inj : Function.Injective csem := by
  rintro (_ | t | t) (_ | t' | t') h
  · rfl
  · exact absurd h.symm (dma_ne_bar _)
  · exact absurd h.symm (dma_ne_bar _)
  · exact absurd h (dma_ne_bar _)
  · injection h with h; rw [sendD_inj h]
  · exact absurd h (send_ne_recv t t')
  · exact absurd h (dma_ne_bar _)
  · exact absurd h.symm (send_ne_recv t' t)
  · injection h with h; rw [recvD_inj h]
theorem kcell_inj : Function.Injective (kcell : Dev nD × CI → GSem nD τ sig) := by
  rintro ⟨c, k⟩ ⟨c', k'⟩ h
  have h1 : c = c' := congrArg (fun g : GSem nD τ sig => g.1.1) h
  have h2 : k = k' := csem_inj (congrArg Prod.snd h)
  rw [h1, h2]

omit [FloatOps F] in
theorem sems_eq (c : Dev nD) : (iprop(unscopedSems0 c ∗ Pipeline.ownSems0 (Ix := Unit) (Name := ℕ) (U := UU) (Lvl := ℕ) (Val := Elt F) (τ := τ) osem c) : sProp 𝕄)
    = bigSep Finset.univ fun k : CI => semVal (kcell (c, k)) 0 := by
  rw [sum_CI]
  unfold unscopedSems0 Pipeline.ownSems0
  rw [bigSep_eq_bigSepL_of_eq [SemLoc.reg barS] (by decide +kernel) (by decide +kernel), bigSep_univ_sum]; rfl

/-! ## The ghost state -/

/-- A device's cells' duties: seven of the barrier, one of each other cell. -/
abbrev TI : Type := Fin 7 ⊕ T ⊕ T
def tokOf : Dev nD × TI → GSem nD τ sig × ℕ × Fin 7
  | (c, .inl d) => (barCell c, 0, d) | (c, .inr (.inl t)) => (sendCell c t, 0, 0) | (c, .inr (.inr t)) => (recvCell c t, 0, 0)
theorem tokOf_dev (x : Dev nD × TI) : (tokOf x).1.1.1 = x.1 := by rcases x with ⟨c, d | t | t⟩ <;> rfl
theorem tokOf_inj : Function.Injective tokOf := by
  rintro ⟨c, i⟩ ⟨c', i'⟩ h
  have h1 : c = c' := by have := congrArg (fun x : GSem nD τ sig × ℕ × Fin 7 => x.1.1.1) h; rwa [tokOf_dev, tokOf_dev] at this
  subst h1
  have h2 : (tokOf (c, i)).1.2 = (tokOf (c, i')).1.2 := congrArg (fun x : GSem nD τ sig × ℕ × Fin 7 => x.1.2) h
  have h3 : (tokOf (c, i)).2.2 = (tokOf (c, i')).2.2 := congrArg (fun x : GSem nD τ sig × ℕ × Fin 7 => x.2.2) h
  rcases i with d | t | t <;> rcases i' with d' | t' | t'
  · have h4 : d = d' := h3; rw [h4]
  · exact absurd h2.symm (dma_ne_bar _)
  · exact absurd h2.symm (dma_ne_bar _)
  · exact absurd h2 (dma_ne_bar _)
  · injection h2 with h2; rw [sendD_inj h2]
  · exact absurd h2 (send_ne_recv t t')
  · exact absurd h2 (dma_ne_bar _)
  · exact absurd h2.symm (send_ne_recv t' t)
  · injection h2 with h2; rw [recvD_inj h2]

def theCells : Finset (GSem nD τ sig) := Finset.univ.map ⟨kcell, kcell_inj⟩
def theToks : Finset (GSem nD τ sig × ℕ × Fin 7) := Finset.univ.map ⟨tokOf, tokOf_inj⟩

def u₀ : UU := (initOf (Pipeline.cells cfgs cellOf_inj) (Pipeline.launchToks cfgs cellOf_inj), initOf theCells theToks)

/-- The rights to the duties of device `c`'s own cells. -/
def toks (c : Dev nD) : sProp 𝕄 :=
  iprop((bigSep Finset.univ fun d : Fin 7 => dutyTok ER (barCell c) 0 d)
    ∗ (bigSep Finset.univ fun t : T => dutyTok ER (sendCell c t) 0 0) ∗ bigSep Finset.univ fun t : T => dutyTok ER (recvCell c t) 0 0)

def G (c : Dev nD) : sProp 𝕄 :=
  iprop((bigSep Finset.univ fun k : CI => roundState ER (rd (wOf m) (iOf m)) (kcell (c, k)) 0)
    ∗ (bigSep Finset.univ fun k : CI => atPos ER (kcell (c, k)) 0 ∅ 0) ∗ (bigSep Finset.univ fun k : CI => reached ER (kcell (c, k)) 0) ∗ toks c)

theorem fund_all : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : CI => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by unfold toks; rw [bigSep_univ_sum, bigSep_univ_sum]; rfl
  have hG : bigSep Finset.univ (G m) = iprop((bigSep Finset.univ fun c : Dev nD => bigSep Finset.univ fun k : CI => roundState ER (rd (wOf m) (iOf m)) (kcell (c, k)) 0)
      ∗ (bigSep Finset.univ fun c : Dev nD => bigSep Finset.univ fun k : CI => atPos ER (kcell (c, k)) 0 ∅ 0)
      ∗ (bigSep Finset.univ fun c : Dev nD => bigSep Finset.univ fun k : CI => reached ER (kcell (c, k)) 0) ∗ bigSep Finset.univ fun c : Dev nD => toks c) := by
    unfold G; rw [bigSep_sep', bigSep_sep', bigSep_sep']
  rw [hG]
  iintro HX
  imod (Rounds.fund ER (rd (wOf m) (iOf m)) theCells theToks) $$ HX with ⟨Hst, Hr, Hat, Htok⟩
  imodintro
  isplitl [Hst]; · iapply (Entails.of_eq (hX fun g => roundState ER (rd (wOf m) (iOf m)) g 0)); iexact Hst
  isplitl [Hat]; · iapply (Entails.of_eq (hX fun g => atPos ER g 0 ∅ 0)); iexact Hat
  isplitl [Hr]; · iapply (Entails.of_eq (hX fun g => reached ER g 0)); iexact Hr
  iapply (Entails.of_eq hT); iexact Htok

/-- One device's cells' invariants. -/
theorem alloc_dev (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (rd (wOf m) (iOf m)) κ (kcell (c, k))))
          ∗ (bigSep Finset.univ fun k : CI => atPos ER (kcell (c, k)) 0 ∅ 0) ∗ (bigSep Finset.univ fun k : CI => reached ER (kcell (c, k)) 0) ∗ toks c) := by
  have hI : iprop((bigSep Finset.univ fun k : CI => semVal (kcell (c, k)) 0) ∗ bigSep Finset.univ fun k : CI => roundState ER (rd (wOf m) (iOf m)) (kcell (c, k)) 0)
      ⊢ (|={Set.univ}=> bigSep Finset.univ fun k : CI => iprop(∃ κ : ℕ, cellInv ER (rd (wOf m) (iOf m)) κ (kcell (c, k))) : sProp 𝕄) := by
    classical
    rw [← bigSep_sep']
    exact (bigSep_mono fun k _ => (Rounds.body_intro ER (rd (wOf m) (iOf m)) (kcell (c, k))).trans inv_alloc).trans (bigSep_fupd _ _)
  have hs := sems_eq (F := F) c
  unfold G
  iintro ⟨Hos, Hus, Hst, Hat, Hr, Htok⟩
  imod hI $$ [Hos Hus Hst] with Hinv
  · isplitl [Hos Hus]
    · iapply (Entails.of_eq hs)
      isplitl [Hus] <;> iassumption
    iexact Hst
  imodintro
  isplitl [Hinv]; · iexact Hinv
  isplitl [Hat]; · iexact Hat
  isplitl [Hr]; · iexact Hr
  iexact Htok

/-- The device whose barrier cell device `c` pays with its signal `d`. -/
def shE (d : Fin 7) : Dev nD ≃ Dev nD :=
  ⟨fun c => dsh c (d.val + 1), fun c => dsh c (7 - d.val), fun c => by show dsh (dsh c _) _ = c; rw [dsh_dsh, show d.val + 1 + (7 - d.val) = 8 from by omega]; exact dsh_eight c,
    fun c => by show dsh (dsh c _) _ = c; rw [dsh_dsh, show 7 - d.val + (d.val + 1) = 8 from by omega]; exact dsh_eight c⟩

omit [FloatOps F] in
/-- A family over devices and an index, each index's devices renamed. -/
theorem rename {I : Type} [Fintype I] [DecidableEq I] (E : I → (Dev nD ≃ Dev nD)) (Φ : Dev nD → I → sProp 𝕄) :
    (bigSep Finset.univ fun c : Dev nD => bigSep Finset.univ fun i : I => Φ c i) = bigSep Finset.univ fun c : Dev nD => bigSep Finset.univ fun i : I => Φ (E i c) i := by
  rw [bigSep_univ_comm, bigSep_univ_comm (fun c i => Φ (E i c) i)]
  exact bigSep_congr fun i _ => bigSep_univ_equiv (E i) (fun c => Φ c i)

omit [FloatOps F] in
/-- The positions, and the rights dealt to the devices that pay. -/
theorem deal_toks : iprop((bigSep Finset.univ fun c : Dev nD => bigSep Finset.univ fun k : CI => (atPos ER (kcell (c, k)) 0 ∅ 0 : sProp 𝕄))
      ∗ bigSep Finset.univ fun c : Dev nD => (toks c : sProp 𝕄)) ⊢ bigSep Finset.univ fun c : Dev nD => linear c := by
  have e1 : (bigSep Finset.univ fun c : Dev nD => bigSep Finset.univ fun d : Fin 7 => (dutyTok ER (barCell c) 0 d : sProp 𝕄))
      = bigSep Finset.univ fun c : Dev nD => bigSep Finset.univ fun d : Fin 7 => (dutyTok ER (barCell (dsh c (d.val + 1))) 0 d : sProp 𝕄) := rename shE _
  have e2 : (bigSep Finset.univ fun c : Dev nD => bigSep Finset.univ fun t : T => (dutyTok ER (recvCell c t) 0 0 : sProp 𝕄))
      = bigSep Finset.univ fun c : Dev nD => bigSep Finset.univ fun t : T => (dutyTok ER (recvCell (peer c t) t) 0 0 : sProp 𝕄) := rename peerE _
  unfold toks linear
  rw [bigSep_sep', bigSep_sep', bigSep_sep', bigSep_sep', bigSep_sep', e1, e2]

theorem ghost_intro (K : Dev nD × CI → ℕ) (c : Dev nD) : iprop(records (wOf m) (iOf m) K ∗ linear c) ⊢ ghost m c := by
  unfold ghost
  iintro H; iexists K; iexact H

theorem regroup : (bigSep Finset.univ fun c : Dev nD => iprop((bigSep Finset.univ fun k : CI => iprop(∃ κ : ℕ, cellInv ER (rd (wOf m) (iOf m)) κ (kcell (c, k))))
          ∗ (bigSep Finset.univ fun k : CI => atPos ER (kcell (c, k)) 0 ∅ 0) ∗ (bigSep Finset.univ fun k : CI => reached ER (kcell (c, k)) 0) ∗ toks c) : sProp 𝕄)
      ⊢ bigSep Finset.univ (ghost m) := by
  classical
  rw [bigSep_sep', bigSep_sep', bigSep_sep', ← bigSep_univ_prod (fun ck : Dev nD × CI => iprop(∃ κ : ℕ, cellInv ER (rd (wOf m) (iOf m)) κ (kcell ck))),
    ← bigSep_univ_prod (fun ck : Dev nD × CI => (reached ER (kcell ck) 0 : sProp 𝕄))]
  iintro ⟨HI, Hat, #HR, Htok⟩
  ihave HK := (BI.bigSep_exists_pi Finset.univ (fun (ck : Dev nD × CI) (κ : ℕ) => (cellInv ER (rd (wOf m) (iOf m)) κ (kcell ck) : sProp 𝕄))) $$ HI
  icases HK with ⟨%K, #HI⟩
  iapply (bigSep_under (R := records (wOf m) (iOf m) K) fun c _ => ghost_intro m K c)
  isplitr
  · unfold records; isplitl; · iexact HI
    iexact HR
  iapply (deal_toks (F := F))
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => alloc_dev m c).trans (bigSep_fupd _ _)).trans (BI.fupd_mono (regroup m))

/-! ## The launch credit -/

theorem sum_cell {I : Type} [Fintype I] (p : I → Prop) [DecidablePred p] (f : I → CellTallies nD τ sig Unit) (hp : ∀ i, p i) (g : GSem nD τ sig) :
    (∑ i ∈ Finset.univ.filter p, f i) g () = ∑ i, f i g () := by
  rw [Finset.filter_true_of_mem fun i _ => hp i, Finset.sum_apply, Finsupp.finsetSum_apply]
theorem owed_split (d : Dev nD) (g : GSem nD τ sig) : O₀ d g ()
    = (∑ t : T, (tallyAt (recvCell (peer d t) t) () (amt t) : CellTallies nD τ sig Unit) g ()) + ∑ k : Fin 7, (tallyAt (barCell (dsh d (k.val + 1))) () 1 : CellTallies nD τ sig Unit) g () := by
  unfold O₀ Os Ob
  rw [Pi.add_apply, Finsupp.add_apply, sum_cell _ _ (fun t => Nat.zero_le _), sum_cell _ _ (fun t => Nat.zero_le _)]

theorem sum_swap {I : Type} [Fintype I] (f : Dev nD → I → ℕ) : ∑ d, ∑ i, f d i = ∑ i, ∑ d, f d i := Finset.sum_comm
theorem cell_eq {a b : Dev nD} {s s' : SemLoc sig} : (((a : Thread nD τ), s) : GSem nD τ sig) = ((b : Thread nD τ), s') ↔ a = b ∧ s = s' :=
  ⟨fun h => ⟨congrArg (fun g : GSem nD τ sig => g.1.1) h, congrArg Prod.snd h⟩, fun h => by rw [h.1, h.2]⟩

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_split d (barCell c), Finset.sum_add_distrib, sum_swap (I := T), sum_swap (I := Fin 7)]
  have h1 : ∀ t : T, ∑ d : Dev nD, (tallyAt (recvCell (peer d t) t) () (amt t) : CellTallies nD τ sig Unit) (barCell c) () = 0 := fun t =>
    Finset.sum_eq_zero fun d _ => by
      rw [tallyAt_apply, if_neg]
      rintro ⟨h, -⟩; exact dma_ne_bar _ (cell_eq.mp h).2.symm
  have h2 : ∀ k : Fin 7, ∑ d : Dev nD, (tallyAt (barCell (dsh d (k.val + 1))) () 1 : CellTallies nD τ sig Unit) (barCell c) () = 1 := fun k => by
    rw [Finset.sum_eq_single ((shE k).symm c)]
    · rw [tallyAt_apply, if_pos]; exact ⟨cell_eq.mpr ⟨((shE k).apply_symm_apply c).symm, rfl⟩, rfl⟩
    · intro d _ hd
      rw [tallyAt_apply, if_neg]
      rintro ⟨h, -⟩
      exact hd (by rw [(cell_eq.mp h).1]; exact ((shE k).symm_apply_apply d).symm)
    · intro h; exact absurd (Finset.mem_univ _) h
  rw [Finset.sum_congr rfl fun t _ => h1 t, Finset.sum_congr rfl fun k _ => h2 k]
  simp

theorem launch_recv (c : Dev nD) (t : T) :
    tallyOn (recvCell c t) (launchCredit (Pipeline.owing O₀) 0 (recvCell c t)) = (tallyAt (recvCell c t) () (amt t) : CellTallies nD τ sig Unit) := by
  unfold tallyAt; refine congrArg _ (Finsupp.ext fun u => ?_); cases u
  rw [Pipeline.launchCredit_owing, Finsupp.single_eq_same, Finset.sum_congr rfl fun d _ => owed_split d (recvCell c t), Finset.sum_add_distrib, sum_swap (I := T), sum_swap (I := Fin 7)]
  have h2 : ∀ k : Fin 7, ∑ d : Dev nD, (tallyAt (barCell (dsh d (k.val + 1))) () 1 : CellTallies nD τ sig Unit) (recvCell c t) () = 0 := fun k =>
    Finset.sum_eq_zero fun d _ => by
      rw [tallyAt_apply, if_neg]
      rintro ⟨h, -⟩; exact dma_ne_bar _ (cell_eq.mp h).2
  have h1 : ∑ d : Dev nD, (tallyAt (recvCell (peer d t) t) () (amt t) : CellTallies nD τ sig Unit) (recvCell c t) () = amt t := by
    rw [Finset.sum_eq_single ((peerE t).symm c)]
    · rw [tallyAt_apply, if_pos]; exact ⟨cell_eq.mpr ⟨((peerE t).apply_symm_apply c).symm, rfl⟩, rfl⟩
    · intro d _ hd
      rw [tallyAt_apply, if_neg]
      rintro ⟨h, -⟩
      exact hd (by rw [(cell_eq.mp h).1]; exact ((peerE t).symm_apply_apply d).symm)
    · intro h; exact absurd (Finset.mem_univ _) h
  have h3 : ∀ t' : T, t' ≠ t → ∑ d : Dev nD, (tallyAt (recvCell (peer d t') t') () (amt t') : CellTallies nD τ sig Unit) (recvCell c t) () = 0 := fun t' ht =>
    Finset.sum_eq_zero fun d _ => by
      rw [tallyAt_apply, if_neg]
      rintro ⟨h, -⟩
      have h4 := (cell_eq.mp h).2
      injection h4 with h4
      exact ht (recvD_inj h4).symm
  rw [Finset.sum_eq_single t (fun t' _ h => h3 t' h) (fun h => absurd (Finset.mem_univ _) h), h1, Finset.sum_congr rfl fun k _ => h2 k]
  simp

/-- The waited cells among a device's semaphores. -/
def wsem : Unit ⊕ T → SemLoc sig | .inl _ => .reg barS | .inr t => .dma (recvD t)
theorem wsem_inj : Function.Injective wsem := by
  rintro (_ | t) (_ | t') h
  · rfl
  · exact absurd h.symm (dma_ne_bar _)
  · exact absurd h (dma_ne_bar _)
  · injection h with h; rw [recvD_inj h]

omit [FloatOps F] in
theorem creds (c : Dev nD) : (Pipeline.launchCred O₀ c : sProp 𝕄) ⊢ iprop(cred (tallyAt (barCell c) () 7) ∗ bigSep Finset.univ fun t : T => cred (tallyAt (recvCell c t) () (amt t))) := by
  have h : (iprop(cred (tallyAt (barCell c) () 7) ∗ bigSep Finset.univ fun t : T => cred (tallyAt (recvCell c t) () (amt t))) : sProp 𝕄)
      = bigSep (Finset.univ.map ⟨wsem, wsem_inj⟩) fun sm : SemLoc sig => cred (tallyOn ((c.tc : Thread nD τ), sm) (launchCredit (Pipeline.owing O₀) 0 ((c.tc : Thread nD τ), sm))) := by
    rw [bigSep_map]
    refine Eq.trans ?_ (bigSep_univ_sum (α := Unit) (β := T) _).symm
    rw [(Finset.univ_unique : (Finset.univ : Finset Unit) = {default}), bigSep_singleton, ← launch_bar, bigSep_congr fun t _ => congrArg cred (launch_recv c t).symm]; rfl
  rw [h]
  unfold Pipeline.launchCred
  exact bigSep_subset (Finset.subset_univ _)

/-! ## The launch theorem's side conditions -/

theorem share_eq (c : Dev nD) (w : Fin cfg0.W) : (dats m ρ 0 c).share w = fullShare := by unfold Dat.share; split <;> rfl

/-- The router's weights: the one argument no window reads, held whole while the region runs. -/
def rest1 (c : Dev nD) : sProp 𝕄 := iprop(((c : Thread nD τ).loc main_arg1) ↦{fullShare} m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ rest1 m c) := by
  rw [Pipeline.unscopedRestP_none, unscopedRest0_eq c _]
  iintro ⟨Hw, Hlev, Hcr, -, HG⟩
  ihave Hc := (creds (F := F) c) $$ Hcr
  imodintro
  unfold start
  isplitl [HG Hc Hlev]
  · isplitl [HG]; · iexact HG
    isplitl [Hc]; · iexact Hc
    iexact Hlev
  · unfold rest1; iexact Hw

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = scr c from scopedRest0_eq c]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show (Pipeline.scopedRest cfg0.spec c : sProp 𝕄) = scr c from scopedRest0_eq c]
  unfold Φ₁
  have hs := sems_eq (F := F) c
  iintro ⟨Hr, Hz⟩
  ihave Hz := (Entails.of_eq hs.symm) $$ Hz
  icases Hz with ⟨Hu, Ho⟩
  isplitl [Hu]; · iexact Hu
  isplitl [Ho]; · iexact Ho
  iexact Hr

omit [FloatOps F] in
theorem mayWait_stage (c : Dev nD) (d : DmaSem sig) (hd : d.val < 4) (O : CellTallies nD τ sig Unit) (hO : O = O₀ c ∨ O = 0) :
    (levAts L lv : sProp 𝕄) ⊢ MayWait (c : Thread nD τ) (.dma d) () O := by
  refine mayWait_at c (.dma d) 0 (lv_dma c d (fun t h => by have := (no_ge t).2; rw [h] at hd; change recvNo t < 4 at hd; omega) ()) O fun g u hg => ?_
  rcases hO with rfl | rfl
  · unfold O₀ at hg
    rw [Pi.add_apply, Finsupp.add_apply] at hg
    by_cases h : 0 < Os c 0 g u
    · obtain ⟨t, -, rfl⟩ := Os_pos h
      exact ⟨rfl, by rw [lv_recv]; have := lvT_pos t; omega⟩
    · obtain ⟨d, rfl⟩ := Ob_pos (show 0 < Ob c 0 g u by omega)
      exact ⟨rfl, by rw [lv_bar]; decide⟩
  · exact absurd hg (Nat.lt_irrefl 0)

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_low w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every weakly fair execution of @main on the eight devices ends, each device's
    result array holding `outAt`'s block, its operands unchanged and every counter zero again. -/
theorem run_main : θ_run defs (onTc (τ := τ) (main (F := F))) (s₀ m ρ)
    (fun r => (QC m ρ r ∧ ∀ c : Dev nD, r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := ghost m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := rest1 m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      have hr := Pipeline.unscopedSems0_read (X := (unscopedSems0 c : sProp 𝕄)) (c := c) fupd_intro s'
      unfold rest1
      iintro ⟨Hu, Hw, HSI⟩
      icombine HSI Hw gives %hw
      imod hr $$ [Hu HSI] with ⟨%hs, HSI⟩
      · isplitl [Hu] <;> iassumption
      imodintro
      isplitr
      · ipureintro; exact ⟨hs, funext fun i => hw i (Finset.mem_univ _)⟩
      · iexact HSI)
    (hQ := fun _ h hs => ⟨⟨fun c w => (h c).1 w, fun c => (h c).2.2.2⟩, sem_eq_zero hs fun c => (h c).2.2.1⟩)

end Cert.Moe

end
-- ==== Proof.Frames.lean ====
/-
# The whole run, read at the arrays

Each device's arguments end as they began and its result array ends at `outAt`'s block.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent
public import Idealize.ShloMosaic.Lib.Pipeline.ValueKit

@[expose] public section

noncomputable section

namespace Cert.Moe
open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg) (c : Dev nD)

theorem xOf_eq : xOf m c = m ((c : Thread nD τ).loc main_arg0) := by
  funext i; unfold xOf; blk_ext [show win0_0.index t₀ = ![0, 0] from by decide +kernel]
theorem iOf_eq : iOf m c = m ((c : Thread nD τ).loc main_arg2) := by
  funext i; unfold iOf; blk_ext [show win0_1.index t₀ = ![0, 0] from by decide +kernel]
theorem wOf_eq : wOf m c = m ((c : Thread nD τ).loc main_arg3) := by
  funext i; unfold wOf; blk_ext [show win0_2.index t₀ = ![0, 0, 0] from by decide +kernel]

theorem out_final : finalA m ρ c (3 : Fin 4) = outAt m c := by
  refine (dats m ρ 0 c).arrAt_eq_of_after_last (3 : Fin 4) t₀ (by decide +kernel) _ fun j => ?_
  blk_simp
  rfl

/-- From any memory with zero counters every weakly fair execution of @main on the eight devices ends with the result
    at `outAt`, the arguments unchanged and every counter zero again. -/
theorem run_all : θ_run defs (onTc (τ := τ) (main (F := F))) ⟨m, fun _ => 0, ρ⟩ (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c => ⟨(h.1.1 c (3 : Fin 4)).trans (out_final m ρ c),
      (h.1.1 c (0 : Fin 4)).trans ((dats m ρ 0 c).arrAt_in (0 : Fin 4) rfl _), h.1.2 c,
      (h.1.1 c (1 : Fin 4)).trans ((dats m ρ 0 c).arrAt_in (1 : Fin 4) rfl _),
      (h.1.1 c (2 : Fin 4)).trans ((dats m ρ 0 c).arrAt_in (2 : Fin 4) rfl _)⟩, h.2⟩) (run_main m ρ)

theorem frame_any : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c => (h.1 c).2, h.2⟩) (run_all m ρ)

theorem frame_ideal : Cert.quiescent_KernelIdeal := fun m ρ _ => frame_any (F := Ideal) m ρ

/-- The program over bits runs the same bodies as the program over the extended reals. -/
theorem same_defs₀ : Cert.Kernel.defs₀ (F := F) = defs₀ (F := F) := by
  unfold Cert.Kernel.defs₀ defs₀
  refine congrArg Defs.onTc ?_
  funext l a
  match l, a with
  | 0, (t, s) => rfl
  | ⟨_ + 1, h⟩, _ => exact absurd h (Nat.not_lt.2 (Nat.le_add_left _ _))
theorem same_defs : Cert.Kernel.defs (F := F) = defs (F := F) := by
  unfold Cert.Kernel.defs defs
  rw [same_defs₀]; rfl

theorem frame_kernel : Cert.quiescent_Kernel := fun m ρ _ => by
  rw [same_defs]
  exact frame_any (F := Bits) m ρ

theorem frame_ref : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Moe

end
-- ==== Proof.Quant.lean ====
module
public import Idealize.ShloMosaic.Lib.Pointwise
public import Idealize.ShloMosaic.Lib.IdealHost

/-! # The quantiser, one scalar at a time

The kernel converts the rounded quotient straight to an eight-bit word, which saturates.  The reference
clamps it to -128 … 127 first and converts to a thirty-two-bit word.  At the exact values both give the same
integer, the infinities included, so one column of weights has one quantised form.  The constants that the two
programs write in different float formats denote the same numbers. -/

@[expose] public section
noncomputable section

namespace Cert.Moe
open Idealize.ShloMosaic

/-! ## The constants -/

theorem bits_204 : Ideal.ofBits .f32 0x434C0000#32 = ((204 : ℝ) : EReal) := by
  simp [Ideal.ofBits, Ideal.ieee, -EReal.coe_mul]; norm_num

theorem bits_127 : Ideal.ofBits .f32 0x42FE0000#32 = ((127 : ℝ) : EReal) := by
  simp [Ideal.ofBits, Ideal.ieee, -EReal.coe_mul]; norm_num

theorem bits_127_half : Ideal.ofBits .bf16 0x42FE#16 = ((127 : ℝ) : EReal) := by
  simp [Ideal.ofBits, Ideal.ieee, -EReal.coe_mul]; norm_num

theorem bits_neg128 : Ideal.ofBits .f32 0xC3000000#32 = ((-128 : ℝ) : EReal) := by
  simp [Ideal.ofBits, Ideal.ieee, -EReal.coe_mul]; norm_num

theorem bits_bot : Ideal.ofBits .f32 0xFF800000#32 = ⊥ := by
  simp [Ideal.ofBits, Ideal.ieee, -EReal.coe_mul]

theorem bits_bot_half : Ideal.ofBits .bf16 0xFF80#16 = ⊥ := by
  simp [Ideal.ofBits, Ideal.ieee, -EReal.coe_mul]

/-- The smallest scale's numerator. -/
def eps : EReal := Ideal.ofBits .f32 0x1E3D0000#32

theorem bits_eps_half : Ideal.ofBits .bf16 0x1E3D#16 = eps := by
  simp [eps, Ideal.ofBits, Ideal.ieee, -EReal.coe_mul]; norm_num

/-! ## One column of weights -/

/-- The scale of a column of weights: its largest magnitude, at least `eps`, over 127. -/
def colScale (w : Fin 256 → EReal) : EReal :=
  Ideal.div (max (Finset.univ.fold max ⊥ fun k => FloatOps.absf (F := Ideal) (φ := .f32) (w k)) eps) ((127 : ℝ) : EReal)

/-- A number rounded to an integer and clamped to what eight bits hold. -/
def clampQ (x : EReal) : ℤ :=
  (Ideal.fptosi 8 (Ideal.liftRound Ideal.roundHalfEven x)).toInt

/-- A column's weight as the quantiser leaves it. -/
def colW (w : Fin 256 → EReal) (k : Fin 256) : EReal :=
  (((clampQ (Ideal.div (w k) (colScale w)) : ℤ) : ℝ) : EReal) * colScale w

/-- An eight-bit word holds an integer clamped to -128 … 127. -/
theorem toInt_clamp8 (z : ℤ) : (BitVec.ofInt 8 (max (-128) (min 127 z))).toInt = max (-128) (min 127 z) := by
  rw [BitVec.toInt_ofInt, Int.bmod_eq_of_le (by norm_num) (by norm_num)]

/-- A thirty-two-bit word holds it too. -/
theorem toInt_clamp32 (z : ℤ) : (BitVec.ofInt 32 (max (-128) (min 127 z))).toInt = max (-128) (min 127 z) := by
  rw [BitVec.toInt_ofInt, Int.bmod_eq_of_le (by norm_num) (by norm_num)]

/-- Converting an integer-valued number truncates nothing. -/
theorem trunc_int (z : ℤ) : (if (0 : ℝ) ≤ (z : ℝ) then ⌊(z : ℝ)⌋ else ⌈(z : ℝ)⌉) = z := by
  split <;> simp

/-- Clamping first and converting to thirty-two bits gives the integer of the saturating eight-bit conversion. -/
theorem clamp_convert (x : EReal) :
    (Ideal.fptosi 32 (min ((127 : ℝ) : EReal) (max ((-128 : ℝ) : EReal) (Ideal.liftRound Ideal.roundHalfEven x)))).toInt
      = clampQ x := by
  have hreal : ∀ z : ℤ, (Ideal.fptosi 32 (((max (-128) (min 127 z) : ℤ) : ℝ) : EReal)).toInt = max (-128) (min 127 z) := by
    intro z
    rw [Ideal.fptosi, Ideal.toIntClamped_coe, trunc_int]
    have : max (-((2 ^ (32 - 1) : ℕ) : ℤ)) (min (((2 ^ (32 - 1) : ℕ) : ℤ) - 1) (max (-128) (min 127 z))) = max (-128) (min 127 z) := by
      norm_num
    rw [this, toInt_clamp32]
  unfold clampQ
  induction x using EReal.rec with
  | bot =>
    have h := hreal (-128)
    rw [Ideal.liftRound_bot, max_eq_left bot_le, min_eq_right (by norm_cast)]
    rw [Ideal.fptosi.eq_1 8, Ideal.toIntClamped_bot]
    norm_num at h ⊢
    rw [h]
    decide
  | top =>
    have h := hreal 127
    rw [Ideal.liftRound_top, max_eq_right le_top, min_eq_left le_top]
    rw [Ideal.fptosi.eq_1 8, Ideal.toIntClamped_top]
    norm_num at h ⊢
    rw [h]
    decide
  | coe r =>
    rw [Ideal.liftRound_coe]
    generalize Ideal.roundHalfEven r = z
    have e : min ((127 : ℝ) : EReal) (max ((-128 : ℝ) : EReal) ((z : ℝ) : EReal)) = (((max (-128) (min 127 z) : ℤ) : ℝ) : EReal) := by
      rw [← EReal.coe_strictMono.monotone.map_max, ← EReal.coe_strictMono.monotone.map_min]
      congr 1
      push_cast
      have h : (min 127 (max (-128) z) : ℤ) = max (-128) (min 127 z) := by omega
      have hR := congrArg (fun n : ℤ => (n : ℝ)) h
      push_cast at hR
      exact hR
    rw [e, hreal, Ideal.fptosi, Ideal.toIntClamped_coe, trunc_int]
    exact (toInt_clamp8 z).symm

/-! ## Masks -/

/-- A one-bit comparison widened to a word and read as a number is one or zero. -/
theorem mask_eq {w : Nat} (a b : BitVec w) (φ : FTy) :
    (FloatOps.sitofp (F := Ideal) φ (BitVec.setWidth 32 (IntOp.cmpi CmpIPredicate.eq a b)) : EReal) = if a = b then 1 else 0 := by
  show ((((BitVec.setWidth 32 (IntOp.cmpi CmpIPredicate.eq a b)).toInt : ℤ) : ℝ) : EReal) = _
  by_cases h : a = b
  · rw [if_pos h]; simp [IntOp.cmpi, h]
  · rw [if_neg h]; simp [IntOp.cmpi, beq_eq_false_iff_ne.mpr h]

theorem mask_bool (p : Bool) (φ : FTy) :
    (FloatOps.sitofp (F := Ideal) φ (BitVec.setWidth 32 (BitVec.ofBool p)) : EReal) = if p then 1 else 0 := by
  show ((((BitVec.setWidth 32 (BitVec.ofBool p)).toInt : ℤ) : ℝ) : EReal) = _
  cases p <;> simp

theorem umask_eq {w : Nat} (a b : BitVec w) (φ : FTy) :
    (FloatOps.uitofp (F := Ideal) φ (IntOp.cmpi CmpIPredicate.eq a b) : EReal) = if a = b then 1 else 0 := by
  show ((((IntOp.cmpi CmpIPredicate.eq a b).toNat : ℕ) : ℝ) : EReal) = _
  by_cases h : a = b
  · rw [if_pos h]; simp [IntOp.cmpi, h]
  · rw [if_neg h]; simp [IntOp.cmpi, beq_eq_false_iff_ne.mpr h]

theorem umask_bool (p : Bool) (φ : FTy) :
    (FloatOps.uitofp (F := Ideal) φ (BitVec.ofBool p) : EReal) = if p then 1 else 0 := by
  show ((((BitVec.ofBool p).toNat : ℕ) : ℝ) : EReal) = _
  cases p <;> simp

end Cert.Moe
end
-- ==== Proof.RefValue.lean ====
module
public import proofs.«01_k».proof.Proof.Gen.ReferenceIdeal.Run
public import proofs.«01_k».proof.Proof.Quant
public import Mathlib.Algebra.BigOperators.Fin
public import Mathlib.Logic.Equiv.Fin.Basic

/-! # What the reference computes

The reference's result at a token and an output feature: the sum, over the experts, of the token's product with
the expert's quantised weights, taken for the expert the token names when fewer than 204 earlier tokens name it. -/

@[expose] public section
noncomputable section

namespace Cert.Moe
open Idealize.ShloMosaic Idealize.ShloMosaic.TcCoe

/-! ## The value both programs compute -/

/-- One where position `n` holds the word of expert `e`, and zero elsewhere. -/
def hits {N : ℕ} (I : Fin N → BitVec 32) (e n : ℕ) : ℕ :=
  if h : n < N then (if I ⟨n, h⟩ = BitVec.ofNat 32 e then 1 else 0) else 0

/-- How many of the first `n` positions name expert `e`. -/
def earlier {N : ℕ} (I : Fin N → BitVec 32) (e n : ℕ) : ℕ := ∑ i ∈ Finset.range n, hits I e i

/-- The routed product: what token `n` gets at output feature `f`. -/
def moe (X : Fin 8192 → Fin 256 → EReal) (I : Fin 8192 → BitVec 32) (W : Fin 32 → Fin 256 → Fin 512 → EReal)
    (n : Fin 8192) (f : Fin 512) : EReal :=
  ∑ e : Fin 32, if I n = BitVec.ofNat 32 e.val ∧ earlier I e.val n.val < 204
    then ∑ k, X n k * colW (fun k => W e k f) k else 0

theorem cast_hits {N : ℕ} (I : Fin N → BitVec 32) (e : ℕ) (n : Fin N) :
    (if I n = BitVec.ofNat 32 e then (1 : EReal) else 0) = ((hits I e n.val : ℕ) : EReal) := by
  rw [hits, dif_pos n.isLt]
  split <;> simp

/-- The mask's sum over a prefix is the count of the prefix. -/
theorem sum_prefix {N : ℕ} (I : Fin N → BitVec 32) (e : ℕ) (m : ℕ) (hm : m ≤ N) :
    (∑ i : Fin N, if i.val < m then (if I i = BitVec.ofNat 32 e then (1 : EReal) else 0) else 0)
      = ((earlier I e m : ℕ) : EReal) := by
  have h1 : ∀ i : Fin N, (if i.val < m then (if I i = BitVec.ofNat 32 e then (1 : EReal) else 0) else 0)
      = (((if i.val < m then hits I e i.val else 0 : ℕ)) : EReal) := by
    intro i
    rw [cast_hits]
    split <;> simp
  rw [Finset.sum_congr rfl fun i _ => h1 i, ← Nat.cast_sum,
    Fin.sum_univ_eq_sum_range (fun i => if i < m then hits I e i else 0) N, ← Finset.sum_filter, earlier]
  congr 2
  ext i
  simp only [Finset.mem_filter, Finset.mem_range]
  omega

theorem lt_204 (n : ℕ) : ((n : ℕ) : EReal) < ((204 : ℝ) : EReal) ↔ n < 204 := by
  rw [show ((204 : ℝ) : EReal) = ((204 : ℕ) : EReal) by norm_cast]
  exact Nat.cast_lt

/-! ## The two reductions of the reference that are not sums over an axis -/

/-- The largest element along the middle axis. -/
theorem hostMax {a b d : ℕ} {u : Shape} (v : FVec Ideal ⟨3, ![a, b, d]⟩ .f32) (init : FVec Ideal u .f32)
    (h : (⟨3, ![a, b, d]⟩ : Shape).ReducesTo [1] ⟨2, ![a, d]⟩) (hu : 0 < u.numel) (i : Fin a) (f : Fin d) :
    Host.reduce FloatOps.maximumf v init h hu (ix2 i f)
      = Finset.univ.fold max (init (Shape.Idx.first hu)) fun k : Fin b => v (ix3 i k f) := by
  exact (Host.reduce_eq_fold (fun x y : EReal => max x y) v init h hu (ix2 i f)).trans (h.fold_fiber_r3_a1 _ _ _ _)

/-- A fold of additions is the starting value plus the sum. -/
theorem foldl_add_sum {ι : Type} (l : List ι) (g : ι → EReal) (z : EReal) :
    l.foldl (fun r a => r + g a) z = z + (l.map g).sum := by
  induction l generalizing z with
  | nil => simp
  | cons a l ih => rw [List.foldl_cons, ih, List.map_cons, List.sum_cons, add_assoc]

/-- The running sum down a column: a window of the column's whole height, padded above by one less. -/
theorem running_sum {M C : ℕ} (x : FVec Ideal ⟨2, ![M + 1, C]⟩ .f32) {u : Shape} (init : FVec Ideal u .f32)
    (hi : ∀ i, init i = 0)
    (h : (⟨2, ![M + 1, C]⟩ : Shape).ReduceWindows (![M + 1, 1] : Fin 2 → ℕ) ![1, 1] ![M, 0] ![0, 0] ⟨2, ![M + 1, C]⟩)
    (hu : 0 < u.numel) (n : Fin (M + 1)) (e : Fin C) :
    Host.reduceWindowAdd ![M + 1, 1] ![1, 1] ![M, 0] ![0, 0] x init h hu (ix2 n e)
      = ∑ i : Fin (M + 1), if i.val < n.val + 1 then x (ix2 i e) else 0 := by
  show (List.finRange _).foldl _ _ = _
  refine (foldl_add_sum _ _ _).trans ?_
  rw [hi, zero_add, ← Fin.sum_univ_def]
  refine ((Equiv.sum_comp (Shape.rowMajor ⟨2, ![M + 1, 1]⟩) _).symm.trans ?_)
  rw [sum_idx2]
  have hn := n.isLt
  refine Fintype.sum_equiv (Equiv.addLeft (n + 1)) _ _ fun a => ?_
  have ha := a.isLt
  rw [Fintype.sum_unique]
  have hval : (Equiv.addLeft (n + 1) a).val = (n.val + 1 + a.val) % (M + 1) := by
    show ((n + 1 + a : Fin (M + 1))).val = _
    rw [Fin.val_add, Fin.val_add]
    rcases M with _ | M
    · omega
    · rw [Fin.val_one]
      simp only [Nat.add_mod, Nat.mod_mod]
  simp only [Equiv.symm_apply_apply]
  by_cases hin : M ≤ n.val + a.val
  · have hv : (n.val + 1 + a.val) % (M + 1) = n.val + a.val - M := by
      rw [show n.val + 1 + a.val = (n.val + a.val - M) + (M + 1) by omega, Nat.add_mod_right, Nat.mod_eq_of_lt (by omega)]
    rw [dif_pos, if_pos (by rw [hval, hv]; omega)]
    · refine congrArg x (funext fun b => Fin.ext ?_)
      match b with
      | ⟨0, _⟩ =>
        show n.val * 1 + a.val - M = _
        rw [Nat.mul_one]
        exact (hval.trans hv).symm
      | ⟨1, _⟩ =>
        show e.val * 1 + 0 - 0 = e.val
        omega
    · intro b
      match b with
      | ⟨0, _⟩ =>
        show M ≤ n.val * 1 + a.val ∧ n.val * 1 + a.val - M < M + 1
        omega
      | ⟨1, _⟩ =>
        show 0 ≤ e.val * 1 + 0 ∧ e.val * 1 + 0 - 0 < C
        have := e.isLt
        omega
  · have hv : (n.val + 1 + a.val) % (M + 1) = n.val + 1 + a.val := Nat.mod_eq_of_lt (by omega)
    rw [dif_neg, if_neg (by rw [hval, hv]; omega)]
    intro hb
    have h0 := (hb 0).1
    change M ≤ n.val * 1 + a.val at h0
    omega

/-! ## The reference's term, in parts -/

open Cert.ReferenceIdeal Cert.ReferenceIdeal.Gen

/-- The largest element of each column. -/
def refMax (v : FVec Ideal S32x256x512 .f32) : FVec Ideal S32x512 .f32 :=
  Host.reduce FloatOps.maximumf v (constant S_ .f32 0xFF800000#32) reducesTo_S32x256x512_S32x512_d1 h_S_

/-- The running count of each expert. -/
def refRun (ch : FVec Ideal S8192x32 .f32) : FVec Ideal S8192x32 .f32 :=
  Host.reduceWindowAdd ![8192, 1] ![1, 1] ![8191, 0] ![0, 0] ch (broadcastInDim S_ ![] bcast_S_S_ (constant S_ .f32 0x00000000#32)) reduceWindows_S8192x32_S8192x32_w8192s1p8191_0_w1s1p0_0 h_S_

/-- The reference's per-column scale. -/
def refSC (W : FVec Ideal S32x256x512 .bf16) : FVec Ideal S32x1x512 .f32 :=
  Host.divf (maximumf (broadcastInDim S32x1x512 ![0, 2] bcast_S32x512_S32x1x512_0_2 (refMax (Host.absf (extf .f32 W bitsLt_bf16_f32)))) (broadcastInDim S32x1x512 ![] bcast_S_S32x1x512 (constant S_ .f32 0x1E3D0000#32))) (broadcastInDim S32x1x512 ![] bcast_S_S32x1x512 (constant S_ .f32 0x42FE0000#32))

/-- The reference's quantised weights. -/
def refWQ (W : FVec Ideal S32x256x512 .bf16) : FVec Ideal S32x256x512 .f32 :=
 (mulf (sitofp .f32 (fptosi 32 (minimumf (broadcastInDim S32x256x512 ![] bcast_S_S32x256x512 (id (constant S_ .f32 0x42FE0000#32))) (maximumf (broadcastInDim S32x256x512 ![] bcast_S_S32x256x512 (id (constant S_ .f32 0xC3000000#32))) (Host.roundeven (Host.divf (extf .f32 W bitsLt_bf16_f32) (broadcastInDim S32x256x512 ![0, 1, 2] bcast_S32x1x512_S32x256x512_0_1_2 (refSC W))))))))  (broadcastInDim S32x256x512 ![0, 1, 2] bcast_S32x1x512_S32x256x512_0_1_2 (refSC W)))

/-- The reference's one-hot choice of experts. -/
def refCH (I : IVec S8192x1 32) : FVec Ideal S8192x32 .f32 :=
 (uitofp .f32 (cmpi .eq (broadcastInDim S8192x32 ![0, 1] bcast_S8192x1_S8192x32_0_1 I) (broadcastInDim S8192x32 ![0, 1] bcast_S1x32_S8192x32_0_1 (broadcastInDim S1x32 ![1] bcast_S32_S1x32_1 (iotaInDim S32 32 0)))))

/-- The reference's choices that lie within the capacity. -/
def refKeep (ch : FVec Ideal S8192x32 .f32) : FVec Ideal S8192x32 .f32 :=
 (mulf ch (uitofp .f32 (cmpf .olt (subf (refRun ch) ch) (broadcastInDim S8192x32 ![] bcast_S_S8192x32 (constant S_ .f32 0x434C0000#32)))))

/-- The reference's result. -/
def refOut (X : FVec Ideal S8192x256 .bf16) (I : IVec S8192x1 32) (W : FVec Ideal S32x256x512 .bf16) : FVec Ideal S8192x512 .f32 :=
 Host.reduceAdd (mulf (broadcastInDim S32x8192x512 ![0, 1, 2] bcast_S32x8192x1_S32x8192x512_0_1_2 (broadcastInDim S32x8192x1 ![0, 1] bcast_S32x8192_S32x8192x1_0_1 (transpose S32x8192 [1, 0] (refKeep (refCH I)) transposes_S8192x32_S32x8192_1_0))) (transpose S32x8192x512 [0, 2, 1] (Host.dotGeneral dot_S32x256x512_S8192x256_S32x512x8192_1_1_02_0_n_n none (refWQ W) (extf .f32 X bitsLt_bf16_f32)) transposes_S32x512x8192_S32x8192x512_0_2_1)) (constant S_ .f32 0x00000000#32) reducesTo_S32x8192x512_S8192x512_d0 h_S_

theorem refMax_apply (v : FVec Ideal S32x256x512 .f32) (e : Fin 32) (f : Fin 512) :
    refMax v (ix2 e f) = Finset.univ.fold max ⊥ fun k : Fin 256 => v (ix3 e k f) := by
  have h : (constant (F := Ideal) S_ .f32 0xFF800000#32) (Shape.Idx.first h_S_) = ⊥ := bits_bot
  rw [← h]
  unfold refMax
  generalize constant (F := Ideal) S_ .f32 0xFF800000#32 = init
  exact hostMax v init reducesTo_S32x256x512_S32x512_d1 h_S_ e f

/-- A per-column row stands over the column. -/
theorem refCol_apply (v : FVec Ideal S32x512 .f32) (e : Fin 32) (f : Fin 512) :
    broadcastInDim S32x1x512 ![0, 2] bcast_S32x512_S32x1x512_0_2 v (ix3 e (0 : Fin 1) f) = v (ix2 e f) := by
  refine congrArg v (funext fun b => ?_)
  match b with
  | ⟨0, _⟩ => rfl
  | ⟨1, _⟩ => rfl

/-- The scale in its four operations, read at an index. -/
theorem scale_parts {s : Shape} (a b c : FVec Ideal s .f32) (i : s.Idx) :
    Host.divf (maximumf a b) c i = Ideal.div (max (a i) (b i)) (c i) := rfl

theorem refSC_apply (W : FVec Ideal S32x256x512 .bf16) (e : Fin 32) (f : Fin 512) :
    refSC W (ix3 e (0 : Fin 1) f) = colScale fun k => W (ix3 e k f) := by
  rw [refSC, scale_parts, refCol_apply, refMax_apply, ValueIdx.broadcastInDim_scalar_apply,
    ValueIdx.broadcastInDim_scalar_apply]
  have h1 : constant (F := Ideal) S_ .f32 0x42FE0000#32 = fun _ => ((127 : ℝ) : EReal) := funext fun _ => bits_127
  have h2 : constant (F := Ideal) S_ .f32 0x1E3D0000#32 = fun _ => eps := funext fun _ => rfl
  rw [h1, h2]
  rfl

theorem refWQ_apply (W : FVec Ideal S32x256x512 .bf16) (e : Fin 32) (k : Fin 256) (f : Fin 512) :
    refWQ W (ix3 e k f) = colW (fun k => W (ix3 e k f)) k := by
  have h : refWQ W (ix3 e k f)
      = FloatOps.sitofp (F := Ideal) .f32 (FloatOps.fptosi (F := Ideal) (φ := .f32) 32 (min (Ideal.ofBits .f32 0x42FE0000#32) (max (Ideal.ofBits .f32 0xC3000000#32)
          (Ideal.liftRound Ideal.roundHalfEven (Ideal.div (W (ix3 e k f)) (refSC W (ix3 e (0 : Fin 1) f))))))) * refSC W (ix3 e (0 : Fin 1) f) := by
    pointwise [refWQ, id_eq]
  rw [h, refSC_apply, bits_127, bits_neg128, colW, ← clamp_convert]
  rfl

theorem refCH_apply (I : IVec S8192x1 32) (n : Fin 8192) (e : Fin 32) :
    refCH I (ix2 n e) = if I (ix2 n (0 : Fin 1)) = BitVec.ofNat 32 e.val then 1 else 0 := by
  have h : refCH I (ix2 n e) = FloatOps.uitofp (F := Ideal) .f32 (IntOp.cmpi CmpIPredicate.eq (I (ix2 n (0 : Fin 1))) (BitVec.ofNat 32 e.val)) := by
    pointwise [refCH]
  rw [h, umask_eq]

theorem refRun_apply (ch : FVec Ideal S8192x32 .f32) (n : Fin 8192) (e : Fin 32) :
    refRun ch (ix2 n e) = ∑ i : Fin 8192, if i.val < n.val + 1 then ch (ix2 i e) else 0 :=
  running_sum (M := 8191) ch _ (fun i => Ideal.ofBits_zero_f32) _ _ n e

/-- A choice is kept when fewer than 204 earlier tokens made it. -/
theorem refKeep_apply (I : IVec S8192x1 32) (n : Fin 8192) (e : Fin 32) :
    refKeep (refCH I) (ix2 n e)
      = if I (ix2 n (0 : Fin 1)) = BitVec.ofNat 32 e.val ∧ earlier (fun n : Fin 8192 => I (ix2 n (0 : Fin 1))) e.val n.val < 204 then 1 else 0 := by
  have h : refKeep (refCH I) (ix2 n e) = refCH I (ix2 n e) * FloatOps.uitofp (F := Ideal) .f32
      (BitVec.ofBool (decide (refRun (refCH I) (ix2 n e) - refCH I (ix2 n e) < Ideal.ofBits .f32 0x434C0000#32))) := by
    pointwise [refKeep]
  have hrun : refRun (refCH I) (ix2 n e) = ((earlier (fun n : Fin 8192 => I (ix2 n (0 : Fin 1))) e.val (n.val + 1) : ℕ) : EReal) := by
    rw [refRun_apply, ← sum_prefix _ _ _ n.isLt]
    refine Finset.sum_congr rfl fun i _ => ?_
    rw [refCH_apply]
  have hsub : refRun (refCH I) (ix2 n e) - refCH I (ix2 n e) = ((earlier (fun n : Fin 8192 => I (ix2 n (0 : Fin 1))) e.val n.val : ℕ) : EReal) := by
    rw [hrun, refCH_apply, cast_hits (fun n : Fin 8192 => I (ix2 n (0 : Fin 1))), earlier, Finset.sum_range_succ, ← earlier,
      ← EReal.coe_natCast, ← EReal.coe_natCast, ← EReal.coe_natCast, ← EReal.coe_sub, Nat.cast_add, add_sub_cancel_right]
  rw [h, hsub, umask_bool, bits_204, refCH_apply]
  by_cases h1 : I (ix2 n (0 : Fin 1)) = BitVec.ofNat 32 e.val <;>
    by_cases h2 : earlier (fun n : Fin 8192 => I (ix2 n (0 : Fin 1))) e.val n.val < 204 <;> simp [h1, h2, lt_204]

/-- The reference's result is the routed product. -/
theorem refOut_apply (X : FVec Ideal S8192x256 .bf16) (I : IVec S8192x1 32) (W : FVec Ideal S32x256x512 .bf16)
    (n : Fin 8192) (f : Fin 512) :
    refOut X I W (ix2 n f)
      = moe (fun n k => X (ix2 n k)) (fun n => I (ix2 n (0 : Fin 1))) (fun e k f => W (ix3 e k f)) n f := by
  have h : refOut X I W (ix2 n f)
      = ∑ e : Fin 32, refKeep (refCH I) (ix2 n e) * ∑ k : Fin 256, refWQ W (ix3 e k f) * X (ix2 n k) := by
    pointwise [refOut]
  rw [h, moe]
  refine Finset.sum_congr rfl fun e _ => ?_
  rw [refKeep_apply]
  split
  · rw [one_mul]
    refine Finset.sum_congr rfl fun k _ => ?_
    rw [refWQ_apply, mul_comm]
  · rw [zero_mul]

end Cert.Moe
end
-- ==== Proof.KerValue.lean ====
module
public import proofs.«01_k».proof.Proof.Finish
public import proofs.«01_k».proof.Proof.RefValue

/-! # What the kernel computes

The kernel's result on a device at a token and an output feature.  The two half-width accumulators add, over the
eight slots and the four experts of a slot, the token's product with the quantised weights of the expert it names;
a slot's expert numbers are those of the device whose weights it holds.  The mask keeps the token when the tokens
of the lower-numbered devices that name its expert, and the earlier tokens of its own device that do, are fewer
than 204 together. -/

@[expose] public section
noncomputable section

namespace Cert.Moe
open Cert.KernelIdeal Cert.KernelIdeal.Gen
open Idealize.ShloMosaic Idealize.ShloMosaic.TcCoe

/-! ## The stored pieces, read at an index -/

theorem scale_apply (w : Vec Ideal S4x256x512 .bf16) (j : Fin 4) (f : Fin 512) :
    k0_pay3 w (ix3 j (0 : Fin 1) f) = colScale fun k => w (ix3 j k f) := by
  have h : k0_pay3 w (ix3 j (0 : Fin 1) f)
      = Ideal.div (max (Finset.univ.fold max (Ideal.ofBits .bf16 0xFF80#16) fun k : Fin 256 => FloatOps.absf (F := Ideal) (φ := .bf16) (w (ix3 j k f))) (Ideal.ofBits .bf16 0x1E3D#16))
          (Ideal.ofBits .bf16 0x42FE#16) := by
    pointwise [k0_pay3, k0_pay2]
  rw [h, bits_bot_half, bits_eps_half, bits_127_half]
  rfl

theorem code_apply (w : Vec Ideal S4x256x512 .bf16) (j : Fin 4) (k : Fin 256) (f : Fin 512) :
    FloatOps.sitofp (F := Ideal) .bf16 (k0_pay4 w (ix3 j k f))
      = (((clampQ (Ideal.div (w (ix3 j k f)) (colScale fun k => w (ix3 j k f))) : ℤ) : ℝ) : EReal) := by
  have h : k0_pay4 w (ix3 j k f)
      = FloatOps.fptosi (F := Ideal) (φ := .bf16) 8 (Ideal.liftRound Ideal.roundHalfEven (Ideal.div (w (ix3 j k f)) (k0_pay3 w (ix3 j (0 : Fin 1) f)))) := by
    pointwise [k0_pay4, k0_pay2]
  rw [h, scale_apply]
  rfl

theorem left_apply (w : Vec Ideal S4x256x512 .bf16) (j : Fin 4) (k f : Fin 256) :
    k0_pay5 w (ix4 (0 : Fin 1) j k f) = k0_pay4 w (ix3 j k (⟨f.val, by omega⟩ : Fin 512)) := by
  pointwise [k0_pay5]

theorem right_apply (w : Vec Ideal S4x256x512 .bf16) (j : Fin 4) (k f : Fin 256) :
    k0_pay7 (k0_pay6 w) (ix4 (0 : Fin 1) j k f) = k0_pay4 w (ix3 j k (⟨256 + f.val, by omega⟩ : Fin 512)) := by
  pointwise [k0_pay7, k0_pay6]

theorem meta_apply (s : FVec Ideal S4x1x512 .bf16) (ix : Vec Ideal S1024x1 .i32) (r : Fin 5) (f : Fin 512) :
    k0_pay11 (k0_pay10 s ix) (ix3 (0 : Fin 1) r f)
      = if h : r.val < 1 then
          ∑ t : Fin 1024, FloatOps.sitofp (F := Ideal) .f32 (BitVec.setWidth 32 (IntOp.cmpi CmpIPredicate.eq (ix (ix2 t (0 : Fin 1))) (BitVec.ofNat 32 f.val)))
        else s (ix3 (⟨r.val - 1, by omega⟩ : Fin 4) (0 : Fin 1) f) := by
  pointwise [k0_pay10, k0_pay11]

theorem lane_apply (ix : Vec Ideal S1024x1 .i32) (t : Fin 1024) (l : Fin 128) :
    k0_pay9 (F := Ideal) ix (ix2 t l) = if ix (ix2 t (0 : Fin 1)) = BitVec.ofNat 32 l.val then 1 else 0 := by
  have h : k0_pay9 (F := Ideal) ix (ix2 t l)
      = FloatOps.sitofp (F := Ideal) .f32 (BitVec.setWidth 32 (IntOp.cmpi CmpIPredicate.eq (ix (ix2 t (0 : Fin 1))) (BitVec.ofNat 32 l.val))) := by
    pointwise [k0_pay9]
  rw [h, mask_eq]

/-- One expert's contribution at a token and a feature. -/
theorem term_apply (x : FVec Ideal S1024x256 .bf16) (ix : Vec Ideal S1024x1 .i32) (ew : BitVec 32)
    (sc : Vec Ideal S1x1x256 .f32) (wq : Vec Ideal S1x1x256x256 .i8) (t : Fin 1024) (f : Fin 256) :
    term x ix ew sc wq (ix2 t f)
      = if ix (ix2 t (0 : Fin 1)) = ew then
          ∑ k : Fin 256, x (ix2 t k) * (FloatOps.sitofp (F := Ideal) .bf16 (wq (ix4 (0 : Fin 1) (0 : Fin 1) k f)) * sc (ix3 (0 : Fin 1) (0 : Fin 1) f))
        else 0 := by
  have h : term x ix ew sc wq (ix2 t f)
      = ∑ k : Fin 256, x (ix2 t k) * FloatOps.sitofp (F := Ideal) .f32 (BitVec.setWidth 32 (IntOp.cmpi CmpIPredicate.eq (ix (ix2 t (0 : Fin 1))) ew))
          * (FloatOps.sitofp (F := Ideal) .bf16 (wq (ix4 (0 : Fin 1) (0 : Fin 1) k f)) * sc (ix3 (0 : Fin 1) (0 : Fin 1) f)) := by
    pointwise [term]
  rw [h, mask_eq]
  split
  · simp only [mul_one]
  · simp only [mul_zero, zero_mul, Finset.sum_const_zero]

/-! ## The two halves -/

/-- The word of expert `j` of device `d`. -/
def xw (d : Dev nD) (j : ℕ) : BitVec 32 := BitVec.ofNat 32 (4 * d.val + j)

theorem wordA (c : Dev nD) (s : Fin 8) (j : Fin 4) :
    Scalar.addi (Scalar.muli (odA c s.val) 4#32) (BitVec.ofNat 32 j.val) = xw (dsh c (8 - s.val)) j.val := by
  revert c s j
  decide +kernel

theorem wordB (c : Dev nD) (s : Fin 8) (j : Fin 4) :
    Scalar.addi (Scalar.muli (odB c s.val) 4#32) (BitVec.ofNat 32 j.val) = xw (dsh c s.val) j.val := by
  revert c s j
  decide +kernel

/-- What expert `j` of device `d` contributes to token `t` of device `c` at feature `f`. -/
def piece (e : Env Ideal) (c d : Dev nD) (j : Fin 4) (t : Fin 1024) (f : Fin 512) : EReal :=
  if e.IX c (ix2 t (0 : Fin 1)) = xw d j.val then
    ∑ k : Fin 256, e.X c (ix2 t k) * colW (fun k => e.W d (ix3 j k f)) k
  else 0

theorem x_apply (x : Vec Ideal S1024x256 .bf16) (t : Fin 1024) (k : Fin 256) : k0_pay8 (F := Ideal) x (ix2 t k) = x (ix2 t k) := by
  pointwise [k0_pay8]

theorem termA_apply (e : Env Ideal) (c : Dev nD) (s : Fin 8) (j : Fin 4) (t : Fin 1024) (f : Fin 256) :
    termA e c s.val j.val (ix2 t f) = piece e c (dsh c (8 - s.val)) j t ⟨f.val, by omega⟩ := by
  rw [termA, wordA, term_apply, piece]
  congr 1
  refine Finset.sum_congr rfl fun k _ => ?_
  have hw : ldA c e.W s.val j.val (ix4 (0 : Fin 1) (0 : Fin 1) k f)
      = k0_pay4 (e.W (dsh c (8 - s.val))) (ix3 j k (⟨f.val, by omega⟩ : Fin 512)) := by
    rw [← left_apply]
    show k0_pay5 (e.W (dsh c (8 - (Fin.ofNat 8 s.val).val))) (ix4 (0 : Fin 1) (Fin.ofNat 4 j.val) k f) = _
    rw [Fin.ofNat_val_eq_self, Fin.ofNat_val_eq_self]
  have hs : ldM c e.W e.IX s.val (1 + j.val) 0 (ix3 (0 : Fin 1) (0 : Fin 1) f)
      = colScale fun k => e.W (dsh c (8 - s.val)) (ix3 j k (⟨f.val, by omega⟩ : Fin 512)) := by
    rw [← scale_apply]
    have hr : (Fin.ofNat 5 (1 + j.val)).val = 1 + j.val := Nat.mod_eq_of_lt (by omega)
    have hf : (Fin.ofNat 512 (0 + f.val)) = (⟨f.val, by omega⟩ : Fin 512) := Fin.ext ((Nat.mod_eq_of_lt (by omega)).trans (Nat.zero_add _))
    show k0_pay11 (k0_pay10 (k0_pay3 (e.W (dsh c (8 - (Fin.ofNat 8 s.val).val)))) (e.IX (dsh c (8 - (Fin.ofNat 8 s.val).val))))
      (ix3 (0 : Fin 1) (Fin.ofNat 5 (1 + j.val)) (Fin.ofNat 512 (0 + f.val))) = _
    rw [meta_apply, dif_neg (by omega), Fin.ofNat_val_eq_self, hf]
    congr 2
    exact Fin.ext (by show (Fin.ofNat 5 (1 + j.val)).val - 1 = _; omega)
  rw [x_apply, hw, hs, code_apply, colW]

theorem termB_apply (e : Env Ideal) (c : Dev nD) (s : Fin 8) (j : Fin 4) (t : Fin 1024) (f : Fin 256) :
    termB e c s.val j.val (ix2 t f) = piece e c (dsh c s.val) j t ⟨256 + f.val, by omega⟩ := by
  rw [termB, wordB, term_apply, piece]
  congr 1
  refine Finset.sum_congr rfl fun k _ => ?_
  have hw : ldB c e.W s.val j.val (ix4 (0 : Fin 1) (0 : Fin 1) k f)
      = k0_pay4 (e.W (dsh c s.val)) (ix3 j k (⟨256 + f.val, by omega⟩ : Fin 512)) := by
    rw [← right_apply]
    show k0_pay7 (k0_pay6 (e.W (dsh c (Fin.ofNat 8 s.val).val))) (ix4 (0 : Fin 1) (Fin.ofNat 4 j.val) k f) = _
    rw [Fin.ofNat_val_eq_self, Fin.ofNat_val_eq_self]
  have hs : ldM c e.W e.IX ((8 - s.val) % 8) (1 + j.val) 256 (ix3 (0 : Fin 1) (0 : Fin 1) f)
      = colScale fun k => e.W (dsh c s.val) (ix3 j k (⟨256 + f.val, by omega⟩ : Fin 512)) := by
    rw [← scale_apply]
    have hr : (Fin.ofNat 5 (1 + j.val)).val = 1 + j.val := Nat.mod_eq_of_lt (by omega)
    have hf : (Fin.ofNat 512 (256 + f.val)) = (⟨256 + f.val, by omega⟩ : Fin 512) := Fin.ext (Nat.mod_eq_of_lt (by omega))
    have hd : dsh c (8 - (Fin.ofNat 8 ((8 - s.val) % 8)).val) = dsh c s.val :=
      dsh_mod c (by show (8 - (8 - s.val) % 8 % 8) % 8 = s.val % 8; omega)
    show k0_pay11 (k0_pay10 (k0_pay3 (e.W (dsh c (8 - (Fin.ofNat 8 ((8 - s.val) % 8)).val)))) (e.IX (dsh c (8 - (Fin.ofNat 8 ((8 - s.val) % 8)).val))))
      (ix3 (0 : Fin 1) (Fin.ofNat 5 (1 + j.val)) (Fin.ofNat 512 (256 + f.val))) = _
    rw [meta_apply, dif_neg (by omega), hd, hf]
    congr 2
    exact Fin.ext (by show (Fin.ofNat 5 (1 + j.val)).val - 1 = _; omega)
  rw [x_apply, hw, hs, code_apply, colW]

end Cert.Moe
end
-- ==== Proof.Routed.lean ====
module
public import proofs.«01_k».proof.Proof.KerValue

/-! # The kernel's result is the routed product

The accumulators cover every device's every expert once, whichever order the slots bring them in; the counts held
against the capacity are the counts of the whole mesh's earlier tokens. -/

@[expose] public section
noncomputable section

namespace Cert.Moe
open Cert.KernelIdeal Cert.KernelIdeal.Gen
open Idealize.ShloMosaic Idealize.ShloMosaic.TcCoe

/-! ## The sums over slots and experts -/

theorem accL_sum (e : Env Ideal) (c : Dev nD) (n : ℕ) (t : Fin 1024) (f : Fin 256) :
    accL e c n (ix2 t f) = ∑ s ∈ Finset.range (n + 1), ∑ j ∈ Finset.range 4, termA e c s j (ix2 t f) := by
  have hh : ∀ s, halfA e c s (ix2 t f) = ∑ j ∈ Finset.range 4, termA e c s j (ix2 t f) := fun s => by
    simp only [Finset.sum_range_succ, Finset.sum_range_zero, zero_add]
    rfl
  induction n with
  | zero => rw [zero_add, Finset.sum_range_one]; exact hh 0
  | succ n ih =>
    rw [Finset.sum_range_succ, ← ih, ← hh]
    have h : accL e c (n + 1) (ix2 t f) = accL e c n (ix2 t f) + halfA e c (n + 1) (ix2 t f) := by
      pointwise [accL]
    exact h

theorem accR_sum (e : Env Ideal) (c : Dev nD) (n : ℕ) (t : Fin 1024) (f : Fin 256) :
    accR e c n (ix2 t f) = ∑ s ∈ Finset.range (n + 1), ∑ j ∈ Finset.range 4, termB e c s j (ix2 t f) := by
  have hh : ∀ s, halfB e c s (ix2 t f) = ∑ j ∈ Finset.range 4, termB e c s j (ix2 t f) := fun s => by
    simp only [Finset.sum_range_succ, Finset.sum_range_zero, zero_add]
    rfl
  induction n with
  | zero => rw [zero_add, Finset.sum_range_one]; exact hh 0
  | succ n ih =>
    rw [Finset.sum_range_succ, ← ih, ← hh]
    have h : accR e c (n + 1) (ix2 t f) = accR e c n (ix2 t f) + halfB e c (n + 1) (ix2 t f) := by
      pointwise [accR]
    exact h

theorem left_bij (c : Dev nD) : Function.Bijective fun s : Fin 8 => dsh c (8 - s.val) := by
  refine Finite.injective_iff_bijective.mp ?_
  revert c
  decide +kernel

theorem right_bij (c : Dev nD) : Function.Bijective fun s : Fin 8 => dsh c s.val := by
  refine Finite.injective_iff_bijective.mp ?_
  revert c
  decide +kernel

/-- The accumulated result: every device's every expert, each once. -/
theorem acc_apply (e : Env Ideal) (c : Dev nD) (t : Fin 1024) (f : Fin 512) :
    mkOut (accL e c 7) (accR e c 7) (ix2 t f) = ∑ d : Dev nD, ∑ j : Fin 4, piece e c d j t f := by
  by_cases h : f.val < 256
  · have h1 : mkOut (accL e c 7) (accR e c 7) (ix2 t f) = accL e c 7 (ix2 t (⟨f.val, h⟩ : Fin 256)) := dif_pos h
    rw [h1, accL_sum, Finset.sum_range]
    refine Eq.trans (Finset.sum_congr rfl fun s _ => ?_) ((left_bij c).sum_comp fun d => ∑ j : Fin 4, piece e c d j t f)
    rw [Finset.sum_range]
    exact Finset.sum_congr rfl fun j _ => termA_apply e c s j t ⟨f.val, h⟩
  · have h1 : mkOut (accL e c 7) (accR e c 7) (ix2 t f) = accR e c 7 (ix2 t (⟨f.val - 256, by omega⟩ : Fin 256)) := dif_neg h
    rw [h1, accR_sum, Finset.sum_range]
    refine Eq.trans (Finset.sum_congr rfl fun s _ => ?_) ((right_bij c).sum_comp fun d => ∑ j : Fin 4, piece e c d j t f)
    rw [Finset.sum_range]
    refine Finset.sum_congr rfl fun j _ => (termB_apply e c s j t ⟨f.val - 256, by omega⟩).trans ?_
    congr 1
    exact Fin.ext (by show 256 + (f.val - 256) = f.val; omega)

/-! ## The mask -/

/-- What device `d`'s tokens name. -/
def routes (e : Env Ideal) (d : Dev nD) : Fin 1024 → BitVec 32 := fun t => e.IX d (ix2 t (0 : Fin 1))

theorem hist_apply (e : Env Ideal) (c : Dev nD) (s : Fin 8) (l : Fin 128) :
    hist e c (ix3 s (0 : Fin 1) l) = ((earlier (routes e (dsh c (8 - s.val))) l.val 1024 : ℕ) : EReal) := by
  show k0_pay11 (k0_pay10 (k0_pay3 (e.W (dsh c (8 - s.val)))) (e.IX (dsh c (8 - s.val)))) (ix3 (0 : Fin 1) (⟨0, by omega⟩ : Fin 5) (⟨l.val, by omega⟩ : Fin 512)) = _
  rw [meta_apply, dif_pos (by decide), ← sum_prefix _ _ _ le_rfl]
  refine Finset.sum_congr rfl fun t _ => ?_
  rw [mask_eq, if_pos t.isLt]
  rfl

/-- The slots whose histograms a device adds are those of the lower-numbered devices. -/
theorem slot_mask (c : Dev nD) (s : Fin 8) (φ : FTy) :
    (FloatOps.sitofp (F := Ideal) φ (BitVec.setWidth 32 (IntOp.andi (IntOp.cmpi CmpIPredicate.sge (BitVec.ofNat 32 s.val) 1#32)
      (IntOp.cmpi CmpIPredicate.sle (BitVec.ofNat 32 s.val) (me c)))) : EReal) = if 1 ≤ s.val ∧ s.val ≤ c.val then 1 else 0 := by
  have h : IntOp.andi (IntOp.cmpi CmpIPredicate.sge (BitVec.ofNat 32 s.val) 1#32) (IntOp.cmpi CmpIPredicate.sle (BitVec.ofNat 32 s.val) (me c))
      = BitVec.ofBool (decide (1 ≤ s.val ∧ s.val ≤ c.val)) := by
    revert c s
    decide +kernel
  rw [h, mask_bool]
  simp

/-- Token numbers compare as words as they do as numbers. -/
theorem tri_mask (t' t : Fin 1024) (φ : FTy) :
    (FloatOps.sitofp (F := Ideal) φ (BitVec.setWidth 32 (IntOp.cmpi CmpIPredicate.slt (BitVec.ofNat 32 t'.val) (BitVec.ofNat 32 t.val))) : EReal)
      = if t'.val < t.val then 1 else 0 := by
  have h : IntOp.cmpi CmpIPredicate.slt (BitVec.ofNat 32 t'.val) (BitVec.ofNat 32 t.val) = BitVec.ofBool (decide (t'.val < t.val)) := by
    have h1 := t.isLt
    have h2 := t'.isLt
    show BitVec.ofBool (BitVec.slt _ _) = _
    congr 1
    have h3 : ∀ n : ℕ, n < 1024 → (BitVec.ofNat 32 n).toInt = (n : ℤ) := fun n hn => by
      rw [BitVec.toInt_eq_toNat_of_lt (by rw [BitVec.toNat_ofNat]; omega), BitVec.toNat_ofNat, Nat.mod_eq_of_lt (by omega)]
    rw [BitVec.slt_eq_decide, h3 _ h1, h3 _ h2]
    simp
  rw [h, mask_bool]
  simp

/-- The tokens that precede token `t` of device `c`, on the lower-numbered devices and on its own, and name expert `l`. -/
def before (e : Env Ideal) (c : Dev nD) (t : Fin 1024) (l : ℕ) : ℕ :=
  (∑ s : Fin 8, if 1 ≤ s.val ∧ s.val ≤ c.val then earlier (routes e (dsh c (8 - s.val))) l 1024 else 0) + earlier (routes e c) l t.val

/-- A lane sum against the one-hot row of a token is the lane the token names. -/
theorem lane_pick (b : BitVec 32) (l : ℕ) (hl : l < 128) (hb : b = BitVec.ofNat 32 l) (v : Fin 128 → EReal) :
    (∑ x : Fin 128, (if b = BitVec.ofNat 32 x.val then (1 : EReal) else 0) * v x) = v ⟨l, hl⟩ := by
  rw [Finset.sum_eq_single (⟨l, hl⟩ : Fin 128)]
  · rw [if_pos hb, one_mul]
  · intro x _ hx
    rw [if_neg, zero_mul]
    intro h
    apply hx
    have h1 := congrArg BitVec.toNat (hb.symm.trans h)
    rw [BitVec.toNat_ofNat, BitVec.toNat_ofNat, Nat.mod_eq_of_lt (by omega), Nat.mod_eq_of_lt (by omega)] at h1
    exact Fin.ext h1.symm
  · exact fun h => absurd (Finset.mem_univ _) h

/-- The same with the one-hot row on the right. -/
theorem lane_pick_right (b : BitVec 32) (l : ℕ) (hl : l < 128) (hb : b = BitVec.ofNat 32 l) (v : Fin 128 → EReal) :
    (∑ x : Fin 128, v x * (if b = BitVec.ofNat 32 x.val then (1 : EReal) else 0)) = v ⟨l, hl⟩ := by
  rw [← lane_pick b l hl hb v]
  exact Finset.sum_congr rfl fun x _ => mul_comm _ _

/-- What the kernel holds against the capacity. -/
def place (e : Env Ideal) (c : Dev nD) (t : Fin 1024) : EReal :=
  (∑ x : Fin 128, k0_pay9 (F := Ideal) (e.IX c) (ix2 t x) * ∑ s : Fin 8, hist e c (ix3 s (0 : Fin 1) x)
      * FloatOps.sitofp (F := Ideal) .f32 (BitVec.setWidth 32 (IntOp.andi (IntOp.cmpi CmpIPredicate.sge (BitVec.ofNat 32 s.val) 1#32)
          (IntOp.cmpi CmpIPredicate.sle (BitVec.ofNat 32 s.val) (me c)))))
    + k0_pay12 (k0_pay9 (F := Ideal) (e.IX c)) (iota .tc S1024x1024 32 [1] iota_S1024x1024_d1_w32) (iota .tc S1024x1024 32 [0] iota_S1024x1024_d0_w32)
        (ix2 t (0 : Fin 1))

/-- The kernel's result: the accumulated product under the mask. -/
theorem outV_apply (e : Env Ideal) (c : Dev nD) (t : Fin 1024) (f : Fin 512) :
    outV e c (ix2 t f) = (∑ d : Dev nD, ∑ j : Fin 4, piece e c d j t f) * (if place e c t < ((204 : ℝ) : EReal) then 1 else 0) := by
  rw [← acc_apply, ← bits_204]
  have h : ∀ (oh : FVec Ideal S1024x128 .bf16) (rk : FVec Ideal S1024x1 .f32) (h : Vec Ideal S8x1x128 .f32) (o : Vec Ideal S1024x512 .f32),
      k0_pay1 oh rk (k0_pay109 (me c) h (iota .tc S8x1x128 32 [0] iota_S8x1x128_d0_w32) 1#32) o (ix2 t f)
      = o (ix2 t f) * FloatOps.sitofp (F := Ideal) .f32 (BitVec.setWidth 32 (BitVec.ofBool (decide
        ((∑ x : Fin 128, oh (ix2 t x) * ∑ s : Fin 8, h (ix3 s (0 : Fin 1) x) * FloatOps.sitofp (F := Ideal) .f32 (BitVec.setWidth 32
          (IntOp.andi (IntOp.cmpi CmpIPredicate.sge (BitVec.ofNat 32 s.val) 1#32) (IntOp.cmpi CmpIPredicate.sle (BitVec.ofNat 32 s.val) (me c)))))
          + rk (ix2 t (0 : Fin 1)) < Ideal.ofBits .f32 0x434C0000#32)))) := fun oh rk h o => by
    pointwise [k0_pay1, k0_pay109]
  rw [outV, h, mask_bool]
  simp only [decide_eq_true_eq]
  rfl

/-- For a token that names a lane, that is the count of the tokens before it. -/
theorem place_apply (e : Env Ideal) (c : Dev nD) (t : Fin 1024) (l : ℕ) (hl : l < 128) (hb : routes e c t = BitVec.ofNat 32 l) :
    place e c t = ((before e c t l : ℕ) : EReal) := by
  have hrk : ∀ oh : FVec Ideal S1024x128 .bf16,
      k0_pay12 oh (iota .tc S1024x1024 32 [1] iota_S1024x1024_d1_w32) (iota .tc S1024x1024 32 [0] iota_S1024x1024_d0_w32) (ix2 t (0 : Fin 1))
      = ∑ x : Fin 128, (∑ t' : Fin 1024, FloatOps.sitofp (F := Ideal) .f32 (BitVec.setWidth 32 (IntOp.cmpi CmpIPredicate.slt (BitVec.ofNat 32 t'.val) (BitVec.ofNat 32 t.val)))
          * oh (ix2 t' x)) * oh (ix2 t x) := fun oh => by
    pointwise [k0_pay12]
  rw [place, hrk]
  simp only [lane_apply, hist_apply, slot_mask, tri_mask]
  have hb' : e.IX c (ix2 t (0 : Fin 1)) = BitVec.ofNat 32 l := hb
  rw [lane_pick _ l hl hb', lane_pick_right _ l hl hb', before, Nat.cast_add, Nat.cast_sum, ← sum_prefix _ _ _ t.isLt.le]
  congr 1
  · refine Finset.sum_congr rfl fun s _ => ?_
    generalize earlier _ _ _ = n
    split <;> simp
  · refine Finset.sum_congr rfl fun t' _ => ?_
    simp only [ite_mul, one_mul, zero_mul]
    rfl

/-! ## From devices to the whole mesh -/

/-- Token `t` of device `d`, and expert `j` of device `d`, in the whole arrays. -/
def row (d : Dev nD) (t : Fin 1024) : Fin 8192 := ⟨1024 * d.val + t.val, by have := dev_lt d; have := t.isLt; omega⟩
def expert (d : Dev nD) (j : Fin 4) : Fin 32 := ⟨4 * d.val + j.val, by have := dev_lt d; have := j.isLt; omega⟩

/-- The experts of the whole mesh are each device's four. -/
theorem sum_experts (v : Fin 32 → EReal) : (∑ d : Dev nD, ∑ j : Fin 4, v (expert d j)) = ∑ x : Fin 32, v x := by
  rw [← Fintype.sum_prod_type' fun d j => v (expert d j)]
  refine Function.Bijective.sum_comp (g := v) (e := fun p : Dev nD × Fin 4 => expert p.1 p.2) ⟨?_, ?_⟩
  · rintro ⟨d, j⟩ ⟨d', j'⟩ h
    have h1 : 4 * d.val + j.val = 4 * d'.val + j'.val := congrArg Fin.val h
    have h2 := j.isLt
    have h3 := j'.isLt
    exact Prod.ext (Fin.ext (by show d.val = d'.val; omega)) (Fin.ext (by show j.val = j'.val; omega))
  · intro x
    have hx := x.isLt
    exact ⟨(⟨x.val / 4, by show _ < 8; omega⟩, ⟨x.val % 4, Nat.mod_lt _ (by decide)⟩), Fin.ext (by show 4 * (x.val / 4) + x.val % 4 = x.val; omega)⟩

/-- A count over a prefix that ends inside device `c`'s tokens: the whole devices before, and part of its own. -/
theorem earlier_row (I : Fin 8192 → BitVec 32) (l : ℕ) (c : ℕ) (hc : c < 8) (m : ℕ) (hm : m ≤ 1024) :
    earlier I l (1024 * c + m)
      = (∑ d ∈ Finset.range c, earlier (fun t : Fin 1024 => I ⟨(1024 * d + t.val) % 8192, Nat.mod_lt _ (by decide)⟩) l 1024)
        + earlier (fun t : Fin 1024 => I ⟨(1024 * c + t.val) % 8192, Nat.mod_lt _ (by decide)⟩) l m := by
  have step : ∀ c, c < 8 → ∀ m ≤ 1024, earlier I l (1024 * c + m) = earlier I l (1024 * c)
      + earlier (fun t : Fin 1024 => I ⟨(1024 * c + t.val) % 8192, Nat.mod_lt _ (by decide)⟩) l m := by
    intro c hc m hm
    rw [earlier, Finset.sum_range_add, ← earlier, earlier.eq_1 (fun t : Fin 1024 => I _)]
    congr 1
    refine Finset.sum_congr rfl fun i hi => ?_
    have hi' := Finset.mem_range.mp hi
    rw [hits, hits, dif_pos (by omega), dif_pos (by omega)]
    have : (⟨(1024 * c + i) % 8192, Nat.mod_lt _ (by decide)⟩ : Fin 8192) = ⟨1024 * c + i, by omega⟩ := Fin.ext (Nat.mod_eq_of_lt (by omega))
    simp only [this]
  rw [step c hc m hm]
  refine congrArg (· + _) ?_
  clear hm m
  induction c with
  | zero => rw [Nat.mul_zero, Finset.sum_range_zero, earlier, Finset.sum_range_zero]
  | succ c ih =>
    rw [Finset.sum_range_succ, ← ih (by omega), ← step c (by omega) 1024 le_rfl, Nat.mul_succ]

/-- The kernel's count is the count of the whole mesh's earlier tokens. -/
theorem before_eq (e : Env Ideal) (I : Fin 8192 → BitVec 32) (hI : ∀ d t, e.IX d (ix2 t (0 : Fin 1)) = I (row d t))
    (c : Dev nD) (t : Fin 1024) (l : ℕ) : before e c t l = earlier I l (row c t).val := by
  have hc := dev_lt c
  have hr : ∀ d : Dev nD, routes e d = fun t : Fin 1024 => I ⟨(1024 * d.val + t.val) % 8192, Nat.mod_lt _ (by decide)⟩ := fun d => by
    funext t
    have := dev_lt d
    have := t.isLt
    refine (hI d t).trans (congrArg I (Fin.ext ?_))
    exact (Nat.mod_eq_of_lt (by omega)).symm
  show _ = earlier I l (1024 * c.val + t.val)
  rw [earlier_row I l c.val hc t.val t.isLt.le, before, hr c]
  congr 1
  rw [← Finset.sum_filter]
  refine Finset.sum_nbij' (fun s => c.val - s.val) (fun d => (Fin.ofNat 8 (c.val - d))) ?_ ?_ ?_ ?_ ?_
  · intro s hs
    have := (Finset.mem_filter.mp hs).2
    exact Finset.mem_range.mpr (by omega)
  · intro d hd
    have := Finset.mem_range.mp hd
    refine Finset.mem_filter.mpr ⟨Finset.mem_univ _, ?_⟩
    show 1 ≤ (c.val - d) % 8 ∧ (c.val - d) % 8 ≤ c.val
    omega
  · intro s hs
    have := (Finset.mem_filter.mp hs).2
    exact Fin.ext (by show (c.val - (c.val - s.val)) % 8 = s.val; omega)
  · intro d hd
    have := Finset.mem_range.mp hd
    show c.val - (c.val - d) % 8 = d
    omega
  · intro s hs
    have := (Finset.mem_filter.mp hs).2
    rw [hr]
    have hd : (dsh c (8 - s.val)).val = c.val - s.val := by show (c.val + (8 - s.val)) % 8 = _; omega
    rw [hd]

/-- A masked choice keeps what the mask, read at the chosen expert, keeps. -/
theorem keep_choice (b : BitVec 32) (v : Fin 32 → EReal) (K : Prop) [Decidable K] (P : Fin 32 → Prop) [DecidablePred P]
    (h : ∀ x : Fin 32, b = BitVec.ofNat 32 x.val → (K ↔ P x)) :
    (∑ x : Fin 32, if b = BitVec.ofNat 32 x.val then v x else 0) * (if K then 1 else 0)
      = ∑ x : Fin 32, if b = BitVec.ofNat 32 x.val ∧ P x then v x else 0 := by
  by_cases hK : K
  · rw [if_pos hK, mul_one]
    refine Finset.sum_congr rfl fun x _ => ?_
    by_cases hx : b = BitVec.ofNat 32 x.val
    · rw [if_pos hx, if_pos ⟨hx, (h x hx).mp hK⟩]
    · rw [if_neg hx, if_neg fun q => hx q.1]
  · rw [if_neg hK, mul_zero]
    refine (Finset.sum_eq_zero fun x _ => ?_).symm
    exact if_neg fun q => hK ((h x q.1).mpr q.2)

/-- On operands that are a device's share of the whole arrays, the kernel's result is the routed product. -/
theorem outV_moe (e : Env Ideal) (X : Fin 8192 → Fin 256 → EReal) (I : Fin 8192 → BitVec 32) (W : Fin 32 → Fin 256 → Fin 512 → EReal)
    (hX : ∀ d t k, e.X d (ix2 t k) = X (row d t) k) (hI : ∀ d t, e.IX d (ix2 t (0 : Fin 1)) = I (row d t))
    (hW : ∀ d j k f, e.W d (ix3 j k f) = W (expert d j) k f) (c : Dev nD) (t : Fin 1024) (f : Fin 512) :
    outV e c (ix2 t f) = moe X I W (row c t) f := by
  have hp : ∀ (d : Dev nD) (j : Fin 4), piece e c d j t f
      = (fun x : Fin 32 => if I (row c t) = BitVec.ofNat 32 x.val then ∑ k, X (row c t) k * colW (fun k => W x k f) k else 0) (expert d j) := by
    intro d j
    simp only [piece, hX, hI, hW]
    rfl
  rw [outV_apply]
  rw [Finset.sum_congr rfl fun d _ => Finset.sum_congr rfl fun j _ => hp d j,
    sum_experts fun x : Fin 32 => if I (row c t) = BitVec.ofNat 32 x.val then ∑ k, X (row c t) k * colW (fun k => W x k f) k else 0, moe]
  refine keep_choice _ _ _ _ fun x hx => ?_
  rw [place_apply e c t x.val (by omega) ((hI c t).trans hx), before_eq e I hI, lt_204]

end Cert.Moe
end
-- ==== Proof.Value.lean ====
/-
# The two programs compute the same array

On matching operands, each device's result is its block of rows of the reference's.
-/
module

public import proofs.«01_k».proof.Proof.Frames
public import proofs.«01_k».proof.Proof.Routed

@[expose] public section
noncomputable section

namespace Cert.Moe
open Idealize.ShloMosaic Idealize.ShloMosaic.TcCoe
open Idealize.SL.Sem

/-! ## A device's block of an array split by rows -/

theorem rows_apply {α : Type} {n : ℕ} (v : (⟨2, ![8192, n]⟩ : Shape).Idx → α) (h : Layout.Tiles ⟨2, ![1024, n]⟩ ⟨2, ![8192, n]⟩ 0 8)
    (d : Dev Cert.KernelIdeal.nD) (t : Fin 1024) (k : Fin n) :
    Layout.block ⟨2, ![1024, n]⟩ ⟨2, ![8192, n]⟩ 0 8 d v h (ix2 t k) = v (ix2 (row d t) k) := by
  rw [Layout.block_apply]
  refine congrArg v (funext fun b => Fin.ext ?_)
  rw [Layout.Tiles.idx_val]
  match b with
  | ⟨0, _⟩ => show d.val * 1024 + t.val = 1024 * d.val + t.val; omega
  | ⟨1, _⟩ => rfl

theorem experts_apply {α : Type} (v : (⟨3, ![32, 256, 512]⟩ : Shape).Idx → α) (h : Layout.Tiles ⟨3, ![4, 256, 512]⟩ ⟨3, ![32, 256, 512]⟩ 0 8)
    (d : Dev Cert.KernelIdeal.nD) (j : Fin 4) (k : Fin 256) (f : Fin 512) :
    Layout.block ⟨3, ![4, 256, 512]⟩ ⟨3, ![32, 256, 512]⟩ 0 8 d v h (ix3 j k f) = v (ix3 (expert d j) k f) := by
  rw [Layout.block_apply]
  refine congrArg v (funext fun b => Fin.ext ?_)
  rw [Layout.Tiles.idx_val]
  match b with
  | ⟨0, _⟩ => show d.val * 4 + j.val = 4 * d.val + j.val; omega
  | ⟨1, _⟩ => rfl
  | ⟨2, _⟩ => rfl

/-! ## The claim -/

theorem values : Cert.algebraic_KernelIdeal_ReferenceIdeal := by
  intro m g m' g' _ hargs
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun _ h c => ⟨(h.1 c).1.trans ?_, (h.1 c).2⟩) (run_all (F := Ideal) m g)
    funext i
    obtain ⟨t, f, rfl⟩ : ∃ (t : Fin 1024) (f : Fin 512), i = ix2 t f := ⟨i 0, i 1, eq_ix2 i⟩
    rw [rows_apply, refOut_apply]
    refine outV_moe (env₀ m) _ _ _ (fun d t k => ?_) (fun d t => ?_) (fun d j k f => ?_) c t f
    · show xOf m d (ix2 t k) = _
      rw [xOf_eq, (hargs d).1, rows_apply]
    · show iOf m d (ix2 t (0 : Fin 1)) = _
      rw [iOf_eq, (hargs d).2.2.1, rows_apply]
    · show wOf m d (ix3 j k f) = _
      rw [wOf_eq, (hargs d).2.2.2, experts_apply]
  · exact (θ_run Cert.ReferenceIdeal.defs _ _).mono (fun _ h => h 0) (Cert.ReferenceIdeal.Value.run (F := Ideal) m' g')

end Cert.Moe

end
-- ==== Proof.lean ====
/-
# The proof of `Cert.Claim`

The runs of the three programs are in Proof/Frames.lean, the equality of the two results in Proof/Value.lean.
-/
module

public import proofs.«01_k».proof.Defs
public import proofs.«01_k».proof.Proof.Frames
public import proofs.«01_k».proof.Proof.Value

@[expose] public section

noncomputable section

namespace Cert.Proof

theorem claim : Cert.Claim := ⟨Cert.Kernel.Gen.facts, Cert.KernelIdeal.Gen.facts, Cert.ReferenceIdeal.Gen.facts,
  Cert.Moe.frame_kernel, Cert.Moe.frame_ideal, Cert.Moe.frame_ref, trivial, Cert.Moe.values⟩

end Cert.Proof

end
